-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_near_apart [hPre_near_apart : Cert.Pre_near_apart.Facts] (m : (ℓ : Loc Cert.KernelIdeal.nD Cert.KernelIdeal.τ Cert.KernelIdeal.sig) → Buf (Elt Ideal) ℓ) : Prop :=
  ∀ c : Dev Cert.KernelIdeal.nD,
    (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_near_apart [hPre_near_apart : Cert.Pre_near_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_near_apart [hKernelIdeal : Cert.KernelIdeal.Facts] [hPre_near_apart : Cert.Pre_near_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_near_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_near_apart [hReferenceIdeal : Cert.ReferenceIdeal.Facts] [hPre_near_apart : Cert.Pre_near_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_near_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_near_apart [hKernelIdeal : Cert.KernelIdeal.Facts] [hReferenceIdeal : Cert.ReferenceIdeal.Facts] [hPre_near_apart : Cert.Pre_near_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_near_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_near_apart : Cert.Pre_near_apart.Facts),
    quiescent_Kernel (hKernel := hKernel)
    ∧ quiescent_KernelIdeal (hKernelIdeal := hKernelIdeal)
    ∧ quiescent_KernelIdeal_pre_near_apart (hKernelIdeal := hKernelIdeal) (hPre_near_apart := hPre_near_apart)
    ∧ quiescent_ReferenceIdeal (hReferenceIdeal := hReferenceIdeal)
    ∧ quiescent_ReferenceIdeal_pre_near_apart (hReferenceIdeal := hReferenceIdeal) (hPre_near_apart := hPre_near_apart)
    ∧ preserves_Kernel_KernelIdeal
    ∧ algebraic_KernelIdeal_ReferenceIdeal_pre_near_apart (hKernelIdeal := hKernelIdeal) (hReferenceIdeal := hReferenceIdeal) (hPre_near_apart := hPre_near_apart)
-- ==== Pre_near_apart.lean ====
abbrev S2x2048x1024 : Shape := ⟨3, ![2, 2048, 1024]⟩
abbrev S2x2048x64 : Shape := ⟨3, ![2, 2048, 64]⟩
abbrev S1 : Shape := ⟨1, ![1]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S2x1x2048x64 : Shape := ⟨4, ![2, 1, 2048, 64]⟩
abbrev S2x2048x1x64 : Shape := ⟨4, ![2, 2048, 1, 64]⟩
abbrev S2x2048x2048x64 : Shape := ⟨4, ![2, 2048, 2048, 64]⟩
abbrev S2x2048x2048 : Shape := ⟨3, ![2, 2048, 2048]⟩
abbrev S2x1x2048 : Shape := ⟨3, ![2, 1, 2048]⟩
abbrev S2x2048x1 : Shape := ⟨3, ![2, 2048, 1]⟩
abbrev S1x1x1 : Shape := ⟨3, ![1, 1, 1]⟩
abbrev S2x2048x17 : Shape := ⟨3, ![2, 2048, 17]⟩
abbrev S2x2048x15 : Shape := ⟨3, ![2, 2048, 15]⟩

class Facts : Prop where
  shapeCasts_S1_S_ : S1.ShapeCasts S_
  bcast_S2x2048x64_S2x1x2048x64_0_2_3 : S2x2048x64.BroadcastsInDim S2x1x2048x64 (![0, 2, 3] : Fin 3 → Fin S2x1x2048x64.rank)
  bcast_S2x2048x64_S2x2048x1x64_0_1_3 : S2x2048x64.BroadcastsInDim S2x2048x1x64 (![0, 1, 3] : Fin 3 → Fin S2x2048x1x64.rank)
  bcast_S2x1x2048x64_S2x2048x2048x64_0_1_2_3 : S2x1x2048x64.BroadcastsInDim S2x2048x2048x64 (![0, 1, 2, 3] : Fin 4 → Fin S2x2048x2048x64.rank)
  bcast_S2x2048x1x64_S2x2048x2048x64_0_1_2_3 : S2x2048x1x64.BroadcastsInDim S2x2048x2048x64 (![0, 1, 2, 3] : Fin 4 → Fin S2x2048x2048x64.rank)
  reducesTo_S2x2048x2048x64_S2x2048x2048_d3 : S2x2048x2048x64.ReducesTo [3] S2x2048x2048
  h_S_ : 0 < S_.numel
  reducesTo_S2x1x2048x64_S2x1x2048_d3 : S2x1x2048x64.ReducesTo [3] S2x1x2048
  reducesTo_S2x2048x1x64_S2x2048x1_d3 : S2x2048x1x64.ReducesTo [3] S2x2048x1
  bcast_S_S1 : S_.BroadcastsInDim S1 (![] : Fin 0 → Fin S1.rank)
  bcast_S1_S1x1x1_2 : S1.BroadcastsInDim S1x1x1 (![2] : Fin 1 → Fin S1x1x1.rank)
  bcast_S1x1x1_S2x2048x2048_0_1_2 : S1x1x1.BroadcastsInDim S2x2048x2048 (![0, 1, 2] : Fin 3 → Fin S2x2048x2048.rank)
  bcast_S1x1x1_S2x1x2048_0_1_2 : S1x1x1.BroadcastsInDim S2x1x2048 (![0, 1, 2] : Fin 3 → Fin S2x1x2048.rank)
  bcast_S_S2x1x2048 : S_.BroadcastsInDim S2x1x2048 (![] : Fin 0 → Fin S2x1x2048.rank)
  bcast_S1x1x1_S2x2048x1_0_1_2 : S1x1x1.BroadcastsInDim S2x2048x1 (![0, 1, 2] : Fin 3 → Fin S2x2048x1.rank)
  bcast_S_S2x2048x1 : S_.BroadcastsInDim S2x2048x1 (![] : Fin 0 → Fin S2x2048x1.rank)
  bcast_S2x1x2048_S2x2048x2048_0_1_2 : S2x1x2048.BroadcastsInDim S2x2048x2048 (![0, 1, 2] : Fin 3 → Fin S2x2048x2048.rank)
  bcast_S2x2048x1_S2x2048x2048_0_1_2 : S2x2048x1.BroadcastsInDim S2x2048x2048 (![0, 1, 2] : Fin 3 → Fin S2x2048x2048.rank)
  bcast_S_S2x2048x2048 : S_.BroadcastsInDim S2x2048x2048 (![] : Fin 0 → Fin S2x2048x2048.rank)
  sliceFits_S2x2048x2048_S2x2048x17 : S2x2048x2048.Slices (fun _ => 0) S2x2048x17
  slices_S2x2048x17_S2x2048x15_0_0_1 : S2x2048x17.Slices ![0, 0, 1] S2x2048x15
  slices_S2x2048x17_S2x2048x15_0_0_2 : S2x2048x17.Slices ![0, 0, 2] S2x2048x15
  bcast_S_S1024x1024 : S_.BroadcastsInDim S1024x1024 (![] : Fin 0 → Fin S1024x1024.rank)
  bcast_S_S1024 : S_.BroadcastsInDim S1024 (![] : Fin 0 → Fin S1024.rank)

variable [Facts]

def fn_arccosh {F : FTy → Type} [FloatOps F] (arg0 : FVec F S2x2048x2048 .f32) : FVec F S2x2048x2048 .f32 :=
  let v0 : FVec F S2x2048x2048 .f32 := Host.acosh arg0
  v0

def fn_part3 {F : FTy → Type} [FloatOps F] (main_arg15 : FVec F S1024 .f32) (main_arg16 : FVec F S1024 .f32) (main_arg19 : FVec F S_ .f32) (main_v44 : IVec S2x2048x15 1) (main_v47 : IVec S1024x1024 1) (main_v50 : IVec S1024 1) (main_v53 : IVec S1024x1024 1) (main_v56 : IVec S1024 1) : IVec S1024x1024 1 × IVec S1024 1 × IVec S1024x1024 1 × IVec S1024 1 × IVec S1024 1 × IVec S1024 1 × IVec S_ 1 × IVec S2x2048x15 1 :=
  let main_v57 : FVec F S1024 .f32 := Host.absf main_arg15
  let main_cst_12 : FVec F S_ .f32 := constant S_ .f32 0x7F800000#32
  let main_v58 : FVec F S1024 .f32 := broadcastInDim S1024 ![] bcast_S_S1024 main_cst_12
  let main_v59 : IVec S1024 1 := cmpf .olt main_v57 main_v58
  let main_v60 : FVec F S1024 .f32 := Host.absf main_arg16
  let main_cst_13 : FVec F S_ .f32 := constant S_ .f32 0x7F800000#32
  let main_v61 : FVec F S1024 .f32 := broadcastInDim S1024 ![] bcast_S_S1024 main_cst_13
  let main_v62 : IVec S1024 1 := cmpf .olt main_v60 main_v61
  let main_cst_14 : FVec F S_ .f32 := constant S_ .f32 0x7F800000#32
  let main_v63 : IVec S_ 1 := cmpf .olt main_arg19 main_cst_14
  (main_v47, main_v50, main_v53, main_v56, main_v59, main_v62, main_v63, main_v44)

def fn_part2 {F : FTy → Type} [FloatOps F] (main_arg3 : FVec F S1024x1024 .f32) (main_arg4 : FVec F S1024 .f32) (main_arg5 : FVec F S1024x1024 .f32) (main_arg6 : FVec F S1024 .f32) (main_arg15 : FVec F S1024 .f32) (main_arg16 : FVec F S1024 .f32) (main_arg19 : FVec F S_ .f32) (main_v1 : FVec F S_ .f32) (main_v38 : FVec F S2x2048x2048 .f32) : IVec S1024x1024 1 × IVec S1024 1 × IVec S1024x1024 1 × IVec S1024 1 × IVec S1024 1 × IVec S1024 1 × IVec S_ 1 × IVec S2x2048x15 1 :=
  let main_v39 : FVec F S2x2048x2048 .f32 := broadcastInDim S2x2048x2048 ![] bcast_S_S2x2048x2048 main_v1
  let main_v40 : FVec F S2x2048x2048 .f32 := Host.divf main_v38 main_v39
  let main_v41 : FVec F S2x2048x2048 .f32 := Host.negf main_v40
  let main_values : FVec F S2x2048x17 .f32 := (fun x => (Host.topK S2x2048x17 2 (FloatOps.cmpfTotal .gt) x sliceFits_S2x2048x2048_S2x2048x17).1) main_v41
  let main_indices : IVec S2x2048x17 32 := (fun x => (Host.topK S2x2048x17 2 (FloatOps.cmpfTotal .gt) x sliceFits_S2x2048x2048_S2x2048x17).2) main_v41
  let main_v42 : FVec F S2x2048x15 .f32 := (extractStridedSlice S2x2048x15 ![0, 0, 1] · slices_S2x2048x17_S2x2048x15_0_0_1) main_values
  let main_v43 : FVec F S2x2048x15 .f32 := (extractStridedSlice S2x2048x15 ![0, 0, 2] · slices_S2x2048x17_S2x2048x15_0_0_2) main_values
  let main_v44 : IVec S2x2048x15 1 := cmpf .ogt main_v42 main_v43
  let main_v45 : FVec F S1024x1024 .f32 := Host.absf main_arg3
  let main_cst_8 : FVec F S_ .f32 := constant S_ .f32 0x7F800000#32
  let main_v46 : FVec F S1024x1024 .f32 := broadcastInDim S1024x1024 ![] bcast_S_S1024x1024 main_cst_8
  let main_v47 : IVec S1024x1024 1 := cmpf .olt main_v45 main_v46
  let main_v48 : FVec F S1024 .f32 := Host.absf main_arg4
  let main_cst_9 : FVec F S_ .f32 := constant S_ .f32 0x7F800000#32
  let main_v49 : FVec F S1024 .f32 := broadcastInDim S1024 ![] bcast_S_S1024 main_cst_9
  let main_v50 : IVec S1024 1 := cmpf .olt main_v48 main_v49
  let main_v51 : FVec F S1024x1024 .f32 := Host.absf main_arg5
  let main_cst_10 : FVec F S_ .f32 := constant S_ .f32 0x7F800000#32
  let main_v52 : FVec F S1024x1024 .f32 := broadcastInDim S1024x1024 ![] bcast_S_S1024x1024 main_cst_10
  let main_v53 : IVec S1024x1024 1 := cmpf .olt main_v51 main_v52
  let main_v54 : FVec F S1024 .f32 := Host.absf main_arg6
  let main_cst_11 : FVec F S_ .f32 := constant S_ .f32 0x7F800000#32
  let main_v55 : FVec F S1024 .f32 := broadcastInDim S1024 ![] bcast_S_S1024 main_cst_11
  let main_v56 : IVec S1024 1 := cmpf .olt main_v54 main_v55
  fn_part3 (F := F) main_arg15 main_arg16 main_arg19 main_v44 main_v47 main_v50 main_v53 main_v56

def fn_part1 {F : FTy → Type} [FloatOps F] (main_arg2 : FVec F S1 .f32) (main_arg3 : FVec F S1024x1024 .f32) (main_arg4 : FVec F S1024 .f32) (main_arg5 : FVec F S1024x1024 .f32) (main_arg6 : FVec F S1024 .f32) (main_arg15 : FVec F S1024 .f32) (main_arg16 : FVec F S1024 .f32) (main_arg19 : FVec F S_ .f32) (main_v1 : FVec F S_ .f32) (main_v10 : FVec F S2x1x2048 .f32) (main_v12 : FVec F S2x2048x1 .f32) (main_v17 : FVec F S2x2048x2048 .f32) (main_v19 : FVec F S2x1x2048 .f32) : IVec S1024x1024 1 × IVec S1024 1 × IVec S1024x1024 1 × IVec S1024 1 × IVec S1024 1 × IVec S1024 1 × IVec S_ 1 × IVec S2x2048x15 1 :=
  let main_v20 : FVec F S2x1x2048 .f32 := mulf main_v19 main_v10
  let main_cst_3 : FVec F S_ .f32 := constant S_ .f32 0x3F800000#32
  let main_v21 : FVec F S2x1x2048 .f32 := broadcastInDim S2x1x2048 ![] bcast_S_S2x1x2048 main_cst_3
  let main_v22 : FVec F S2x1x2048 .f32 := subf main_v21 main_v20
  let main_v23 : FVec F S1x1x1 .f32 := broadcastInDim S1x1x1 ![2] bcast_S1_S1x1x1_2 main_arg2
  let main_v24 : FVec F S2x2048x1 .f32 := broadcastInDim S2x2048x1 ![0, 1, 2] bcast_S1x1x1_S2x2048x1_0_1_2 main_v23
  let main_v25 : FVec F S2x2048x1 .f32 := mulf main_v24 main_v12
  let main_cst_4 : FVec F S_ .f32 := constant S_ .f32 0x3F800000#32
  let main_v26 : FVec F S2x2048x1 .f32 := broadcastInDim S2x2048x1 ![] bcast_S_S2x2048x1 main_cst_4
  let main_v27 : FVec F S2x2048x1 .f32 := subf main_v26 main_v25
  let main_v28 : FVec F S2x2048x2048 .f32 := broadcastInDim S2x2048x2048 ![0, 1, 2] bcast_S2x1x2048_S2x2048x2048_0_1_2 main_v22
  let main_v29 : FVec F S2x2048x2048 .f32 := broadcastInDim S2x2048x2048 ![0, 1, 2] bcast_S2x2048x1_S2x2048x2048_0_1_2 main_v27
  let main_v30 : FVec F S2x2048x2048 .f32 := mulf main_v28 main_v29
  let main_cst_5 : FVec F S_ .f32 := constant S_ .f32 0x322BCC77#32
  let main_v31 : FVec F S2x2048x2048 .f32 := broadcastInDim S2x2048x2048 ![] bcast_S_S2x2048x2048 main_cst_5
  let main_v32 : FVec F S2x2048x2048 .f32 := addf main_v30 main_v31
  let main_v33 : FVec F S2x2048x2048 .f32 := Host.divf main_v17 main_v32
  let main_cst_6 : FVec F S_ .f32 := constant S_ .f32 0x3F800000#32
  let main_v34 : FVec F S2x2048x2048 .f32 := broadcastInDim S2x2048x2048 ![] bcast_S_S2x2048x2048 main_cst_6
  let main_v35 : FVec F S2x2048x2048 .f32 := addf main_v34 main_v33
  let main_cst_7 : FVec F S_ .f32 := constant S_ .f32 0x3F800000#32
  let main_v36 : FVec F S2x2048x2048 .f32 := broadcastInDim S2x2048x2048 ![] bcast_S_S2x2048x2048 main_cst_7
  let main_v37 : FVec F S2x2048x2048 .f32 := maximumf main_v35 main_v36
  let main_v38 : FVec F S2x2048x2048 .f32 := fn_arccosh (F := F) main_v37
  fn_part2 (F := F) main_arg3 main_arg4 main_arg5 main_arg6 main_arg15 main_arg16 main_arg19 main_v1 main_v38

def fn {F : FTy → Type} [FloatOps F] (main_arg0 : FVec F S2x2048x1024 .f32) (main_arg1 : FVec F S2x2048x64 .f32) (main_arg2 : FVec F S1 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S4096x1024 .f32) (main_arg12 : FVec F S4096 .f32) (main_arg13 : FVec F S1024x4096 .f32) (main_arg14 : FVec F S1024 .f32) (main_arg15 : FVec F S1024 .f32) (main_arg16 : FVec F S1024 .f32) (main_arg17 : FVec F S1024 .f32) (main_arg18 : FVec F S1024 .f32) (main_arg19 : FVec F S_ .f32) : IVec S1024x1024 1 × IVec S1024 1 × IVec S1024x1024 1 × IVec S1024 1 × IVec S1024 1 × IVec S1024 1 × IVec S_ 1 × IVec S2x2048x15 1 :=
  let main_v0 : FVec F S1 .f32 := Host.sqrt main_arg2
  let main_v1 : FVec F S_ .f32 := shapeCast S_ main_v0 shapeCasts_S1_S_
  let main_v2 : FVec F S2x1x2048x64 .f32 := broadcastInDim S2x1x2048x64 ![0, 2, 3] bcast_S2x2048x64_S2x1x2048x64_0_2_3 main_arg1
  let main_v3 : FVec F S2x2048x1x64 .f32 := broadcastInDim S2x2048x1x64 ![0, 1, 3] bcast_S2x2048x64_S2x2048x1x64_0_1_3 main_arg1
  let main_v4 : FVec F S2x2048x2048x64 .f32 := broadcastInDim S2x2048x2048x64 ![0, 1, 2, 3] bcast_S2x1x2048x64_S2x2048x2048x64_0_1_2_3 main_v2
  let main_v5 : FVec F S2x2048x2048x64 .f32 := broadcastInDim S2x2048x2048x64 ![0, 1, 2, 3] bcast_S2x2048x1x64_S2x2048x2048x64_0_1_2_3 main_v3
  let main_v6 : FVec F S2x2048x2048x64 .f32 := subf main_v4 main_v5
  let main_v7 : FVec F S2x2048x2048x64 .f32 := mulf main_v6 main_v6
  let main_cst : FVec F S_ .f32 := constant S_ .f32 0x00000000#32
  let main_v8 : FVec F S2x2048x2048 .f32 := (fun x v => Host.reduceAdd x v reducesTo_S2x2048x2048x64_S2x2048x2048_d3 h_S_) main_v7 main_cst
  let main_v9 : FVec F S2x1x2048x64 .f32 := mulf main_v2 main_v2
  let main_cst_0 : FVec F S_ .f32 := constant S_ .f32 0x00000000#32
  let main_v10 : FVec F S2x1x2048 .f32 := (fun x v => Host.reduceAdd x v reducesTo_S2x1x2048x64_S2x1x2048_d3 h_S_) main_v9 main_cst_0
  let main_v11 : FVec F S2x2048x1x64 .f32 := mulf main_v3 main_v3
  let main_cst_1 : FVec F S_ .f32 := constant S_ .f32 0x00000000#32
  let main_v12 : FVec F S2x2048x1 .f32 := (fun x v => Host.reduceAdd x v reducesTo_S2x2048x1x64_S2x2048x1_d3 h_S_) main_v11 main_cst_1
  let main_cst_2 : FVec F S_ .f32 := constant S_ .f32 0x40000000#32
  let main_v13 : FVec F S1 .f32 := broadcastInDim S1 ![] bcast_S_S1 main_cst_2
  let main_v14 : FVec F S1 .f32 := mulf main_v13 main_arg2
  let main_v15 : FVec F S1x1x1 .f32 := broadcastInDim S1x1x1 ![2] bcast_S1_S1x1x1_2 main_v14
  let main_v16 : FVec F S2x2048x2048 .f32 := broadcastInDim S2x2048x2048 ![0, 1, 2] bcast_S1x1x1_S2x2048x2048_0_1_2 main_v15
  let main_v17 : FVec F S2x2048x2048 .f32 := mulf main_v16 main_v8
  let main_v18 : FVec F S1x1x1 .f32 := broadcastInDim S1x1x1 ![2] bcast_S1_S1x1x1_2 main_arg2
  let main_v19 : FVec F S2x1x2048 .f32 := broadcastInDim S2x1x2048 ![0, 1, 2] bcast_S1x1x1_S2x1x2048_0_1_2 main_v18
  fn_part1 (F := F) main_arg2 main_arg3 main_arg4 main_arg5 main_arg6 main_arg15 main_arg16 main_arg19 main_v1 main_v10 main_v12 main_v17 main_v19
-- ==== Kernel.lean ====
abbrev S2x2048x1024 : Shape := ⟨3, ![2, 2048, 1024]⟩
abbrev S2x2048x64 : Shape := ⟨3, ![2, 2048, 64]⟩
abbrev S1 : Shape := ⟨1, ![1]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x64 : Shape := ⟨2, ![512, 64]⟩
abbrev S2x2048x2048 : Shape := ⟨3, ![2, 2048, 2048]⟩
abbrev S1x512x64 : Shape := ⟨3, ![1, 512, 64]⟩
abbrev S1x2048x64 : Shape := ⟨3, ![1, 2048, 64]⟩
abbrev S1x512x1024 : Shape := ⟨3, ![1, 512, 1024]⟩
abbrev S1x2048x1024 : Shape := ⟨3, ![1, 2048, 1024]⟩
abbrev S1x2048x2048 : Shape := ⟨3, ![1, 2048, 2048]⟩
abbrev S2048x64 : Shape := ⟨2, ![2048, 64]⟩
abbrev S1x64 : Shape := ⟨2, ![1, 64]⟩
abbrev S1x2048 : Shape := ⟨2, ![1, 2048]⟩
abbrev S1x2048x128 : Shape := ⟨3, ![1, 2048, 128]⟩
abbrev S2048x128 : Shape := ⟨2, ![2048, 128]⟩
abbrev S512x128 : Shape := ⟨2, ![512, 128]⟩
abbrev S1x4096 : Shape := ⟨2, ![1, 4096]⟩
abbrev S512x4096 : Shape := ⟨2, ![512, 4096]⟩

abbrev nBuf : Space → Nat
  | .hbm => 48
  | .vmem => 42
  | .smem => 2
  | _ => 0

abbrev bufTy : (tb : Table) → Fin (tcTables nBuf tb) → BufTy
  | .hbm, ⟨0, _⟩ => ⟨S2x2048x1024, .f32⟩
  | .hbm, ⟨1, _⟩ => ⟨S2x2048x64, .f32⟩
  | .hbm, ⟨2, _⟩ => ⟨S1, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096, .f32⟩
  | .hbm, ⟨13, _⟩ => ⟨S1024x4096, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S4096x1024, .f32⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S4096x1024, .bf16⟩
  | .hbm, ⟨30, _⟩ => ⟨S4096x1024, .bf16⟩
  | .hbm, ⟨31, _⟩ => ⟨S4096x2048, .bf16⟩
  | .hbm, ⟨32, _⟩ => ⟨S1, .f32⟩
  | .hbm, ⟨33, _⟩ => ⟨S2x2048x1024, .bf16⟩
  | .hbm, ⟨34, _⟩ => ⟨S2x2048x1024, .bf16⟩
  | .hbm, ⟨35, _⟩ => ⟨S2x2048x2048, .bf16⟩
  | .hbm, ⟨36, _⟩ => ⟨S2x2048x1024, .bf16⟩
  | .hbm, ⟨37, _⟩ => ⟨S4096x1024, .bf16⟩
  | .hbm, ⟨38, _⟩ => ⟨S1024x1024, .bf16⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S4096x1024, .bf16⟩
  | .hbm, ⟨43, _⟩ => ⟨S1x4096, .f32⟩
  | .hbm, ⟨44, _⟩ => ⟨S1024x4096, .bf16⟩
  | .hbm, ⟨45, _⟩ => ⟨S1x1024, .f32⟩
  | .hbm, ⟨46, _⟩ => ⟨S4096x1024, .f32⟩
  | .hbm, ⟨47, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S1x512x64, .f32⟩
  | .local _ .vmem, ⟨17, _⟩ => ⟨S1x512x64, .f32⟩
  | .local _ .vmem, ⟨18, _⟩ => ⟨S1x2048x64, .f32⟩
  | .local _ .vmem, ⟨19, _⟩ => ⟨S1x2048x64, .f32⟩
  | .local _ .vmem, ⟨20, _⟩ => ⟨S1x512x1024, .bf16⟩
  | .local _ .vmem, ⟨21, _⟩ => ⟨S1x512x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1x2048x2048, .bf16⟩
  | .local _ .vmem, ⟨25, _⟩ => ⟨S1x2048x2048, .bf16⟩
  | .local _ .vmem, ⟨26, _⟩ => ⟨S1x512x1024, .bf16⟩
  | .local _ .vmem, ⟨27, _⟩ => ⟨S1x512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .f32⟩
  | .local _ .vmem, ⟨31, _⟩ => ⟨S512x1024, .f32⟩
  | .local _ .vmem, ⟨32, _⟩ => ⟨S1024x1024, .bf16⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S4096x1024, .bf16⟩
  | .local _ .vmem, ⟨37, _⟩ => ⟨S1x4096, .f32⟩
  | .local _ .vmem, ⟨38, _⟩ => ⟨S1024x4096, .bf16⟩
  | .local _ .vmem, ⟨39, _⟩ => ⟨S1x1024, .f32⟩
  | .local _ .vmem, ⟨40, _⟩ => ⟨S512x1024, .f32⟩
  | .local _ .vmem, ⟨41, _⟩ => ⟨S512x1024, .f32⟩
  | .local _ .smem, ⟨0, _⟩ => ⟨S1, .f32⟩
  | .local _ .smem, ⟨1, _⟩ => ⟨S1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem10_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![2, 4], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x2048x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4096x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x4096 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S512x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S2x2048x64 : Shape := ⟨3, ![2, 2048, 64]⟩
abbrev S1 : Shape := ⟨1, ![1]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x1x2048x64 : Shape := ⟨4, ![2, 1, 2048, 64]⟩
abbrev S2x2048x1x64 : Shape := ⟨4, ![2, 2048, 1, 64]⟩
abbrev S2x2048x2048x64 : Shape := ⟨4, ![2, 2048, 2048, 64]⟩
abbrev S2x2048x2048 : Shape := ⟨3, ![2, 2048, 2048]⟩
abbrev S2x1x2048 : Shape := ⟨3, ![2, 1, 2048]⟩
abbrev S1x1x1 : Shape := ⟨3, ![1, 1, 1]⟩
abbrev S2x2048x16 : Shape := ⟨3, ![2, 2048, 16]⟩
abbrev S2 : Shape := ⟨1, ![2]⟩
abbrev S2x1x1 : Shape := ⟨3, ![2, 1, 1]⟩
abbrev S2x2048x16x1 : Shape := ⟨4, ![2, 2048, 16, 1]⟩
abbrev S2x2048x16x2 : Shape := ⟨4, ![2, 2048, 16, 2]⟩
abbrev S2x2048x16x16x64 : Shape := ⟨5, ![2, 2048, 16, 16, 64]⟩
abbrev S2x16x2048x16x64 : Shape := ⟨5, ![2, 16, 2048, 16, 64]⟩
abbrev S2x16x2048x16 : Shape := ⟨4, ![2, 16, 2048, 16]⟩
abbrev S2x1x2048x16 : Shape := ⟨4, ![2, 1, 2048, 16]⟩
abbrev S2x16x2048 : Shape := ⟨3, ![2, 16, 2048]⟩
abbrev S2x16x2048x1 : Shape := ⟨4, ![2, 16, 2048, 1]⟩
abbrev S2x2048x4096 : Shape := ⟨3, ![2, 2048, 4096]⟩
abbrev S1x1x4096 : Shape := ⟨3, ![1, 1, 4096]⟩

abbrev nBuf : Space → Nat
  | .hbm => 280
  | .vmem => 0
  | .smem => 0
  | _ => 0

abbrev hbmTy0_0 (i : Nat) : BufTy := match i % 128 with
  | 0 => ⟨S2x2048x1024, .f32⟩
  | 1 => ⟨S2x2048x64, .f32⟩
  | 2 => ⟨S1, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S4096x1024, .f32⟩
  | 12 => ⟨S4096, .f32⟩
  | 13 => ⟨S1024x4096, .f32⟩
  | 14 => ⟨S1024, .f32⟩
  | 15 => ⟨S1024, .f32⟩
  | 16 => ⟨S1024, .f32⟩
  | 17 => ⟨S1024, .f32⟩
  | 18 => ⟨S1024, .f32⟩
  | 19 => ⟨S_, .f32⟩
  | 20 => ⟨S_, .f32⟩
  | 21 => ⟨S2x2048, .f32⟩
  | 22 => ⟨S2x2048x1, .f32⟩
  | 23 => ⟨S_, .f32⟩
  | 24 => ⟨S2x2048x1, .f32⟩
  | 25 => ⟨S2x2048x1, .f32⟩
  | 26 => ⟨S_, .i32⟩
  | 27 => ⟨S_, .f32⟩
  | 28 => ⟨S2x2048, .f32⟩
  | 29 => ⟨S2x2048x1, .f32⟩
  | 30 => ⟨S_, .f32⟩
  | 31 => ⟨S2x2048x1, .f32⟩
  | 32 => ⟨S2x2048x1, .f32⟩
  | 33 => ⟨S2x2048x1024, .f32⟩
  | 34 => ⟨S2x2048x1024, .f32⟩
  | 35 => ⟨S2x2048x1024, .f32⟩
  | 36 => ⟨S_, .f32⟩
  | 37 => ⟨S_, .f32⟩
  | 38 => ⟨S_, .f32⟩
  | 39 => ⟨S_, .f32⟩
  | 40 => ⟨S2x2048, .f32⟩
  | 41 => ⟨S2x2048x1, .f32⟩
  | 42 => ⟨S2x2048x1, .f32⟩
  | 43 => ⟨S2x2048x1, .f32⟩
  | 44 => ⟨S_, .f32⟩
  | 45 => ⟨S_, .i1⟩
  | 46 => ⟨S_, .f32⟩
  | 47 => ⟨S_, .f32⟩
  | 48 => ⟨S2x2048x1, .f32⟩
  | 49 => ⟨S2x2048x1, .f32⟩
  | 50 => ⟨S2x2048x1024, .f32⟩
  | 51 => ⟨S2x2048x1024, .f32⟩
  | 52 => ⟨S_, .f32⟩
  | 53 => ⟨S2x2048x1, .f32⟩
  | 54 => ⟨S2x2048x1, .f32⟩
  | 55 => ⟨S2x2048x1, .f32⟩
  | 56 => ⟨S2x2048x1024, .f32⟩
  | 57 => ⟨S2x2048x1024, .f32⟩
  | 58 => ⟨S1x1x1024, .f32⟩
  | 59 => ⟨S2x2048x1024, .f32⟩
  | 60 => ⟨S2x2048x1024, .f32⟩
  | 61 => ⟨S1x1x1024, .f32⟩
  | 62 => ⟨S2x2048x1024, .f32⟩
  | 63 => ⟨S2x2048x1024, .f32⟩
  | 64 => ⟨S1024x1024, .f32⟩
  | 65 => ⟨S2x2048x1024, .f32⟩
  | 66 => ⟨S1x1x1024, .f32⟩
  | 67 => ⟨S2x2048x1024, .f32⟩
  | 68 => ⟨S2x2048x1024, .f32⟩
  | 69 => ⟨S2x2048x16x64, .f32⟩
  | 70 => ⟨S2x16x2048x64, .f32⟩
  | 71 => ⟨S1024x1024, .f32⟩
  | 72 => ⟨S2x2048x1024, .f32⟩
  | 73 => ⟨S1x1x1024, .f32⟩
  | 74 => ⟨S2x2048x1024, .f32⟩
  | 75 => ⟨S2x2048x1024, .f32⟩
  | 76 => ⟨S2x2048x16x64, .f32⟩
  | 77 => ⟨S1024x1024, .f32⟩
  | 78 => ⟨S2x2048x1024, .f32⟩
  | 79 => ⟨S1x1x1024, .f32⟩
  | 80 => ⟨S2x2048x1024, .f32⟩
  | 81 => ⟨S2x2048x1024, .f32⟩
  | 82 => ⟨S2x2048x16x64, .f32⟩
  | 83 => ⟨S1, .f32⟩
  | 84 => ⟨S_, .f32⟩
  | 85 => ⟨S2x1x2048x64, .f32⟩
  | 86 => ⟨S2x2048x1x64, .f32⟩
  | 87 => ⟨S2x2048x2048x64, .f32⟩
  | 88 => ⟨S2x2048x2048x64, .f32⟩
  | 89 => ⟨S2x2048x2048x64, .f32⟩
  | 90 => ⟨S2x2048x2048x64, .f32⟩
  | 91 => ⟨S_, .f32⟩
  | 92 => ⟨S2x2048x2048, .f32⟩
  | 93 => ⟨S2x1x2048x64, .f32⟩
  | 94 => ⟨S_, .f32⟩
  | 95 => ⟨S2x1x2048, .f32⟩
  | 96 => ⟨S2x2048x1x64, .f32⟩
  | 97 => ⟨S_, .f32⟩
  | 98 => ⟨S2x2048x1, .f32⟩
  | 99 => ⟨S_, .f32⟩
  | 100 => ⟨S1, .f32⟩
  | 101 => ⟨S1, .f32⟩
  | 102 => ⟨S1x1x1, .f32⟩
  | 103 => ⟨S2x2048x2048, .f32⟩
  | 104 => ⟨S2x2048x2048, .f32⟩
  | 105 => ⟨S1x1x1, .f32⟩
  | 106 => ⟨S2x1x2048, .f32⟩
  | 107 => ⟨S2x1x2048, .f32⟩
  | 108 => ⟨S_, .f32⟩
  | 109 => ⟨S2x1x2048, .f32⟩
  | 110 => ⟨S2x1x2048, .f32⟩
  | 111 => ⟨S1x1x1, .f32⟩
  | 112 => ⟨S2x2048x1, .f32⟩
  | 113 => ⟨S2x2048x1, .f32⟩
  | 114 => ⟨S_, .f32⟩
  | 115 => ⟨S2x2048x1, .f32⟩
  | 116 => ⟨S2x2048x1, .f32⟩
  | 117 => ⟨S2x2048x2048, .f32⟩
  | 118 => ⟨S2x2048x2048, .f32⟩
  | 119 => ⟨S2x2048x2048, .f32⟩
  | 120 => ⟨S_, .f32⟩
  | 121 => ⟨S2x2048x2048, .f32⟩
  | 122 => ⟨S2x2048x2048, .f32⟩
  | 123 => ⟨S2x2048x2048, .f32⟩
  | 124 => ⟨S_, .f32⟩
  | 125 => ⟨S2x2048x2048, .f32⟩
  | 126 => ⟨S2x2048x2048, .f32⟩
  | 127 => ⟨S_, .f32⟩
  | _ => ⟨S2x2048x1024, .f32⟩

abbrev hbmTy0_1 (i : Nat) : BufTy := match i % 128 with
  | 0 => ⟨S2x2048x2048, .f32⟩
  | 1 => ⟨S2x2048x2048, .f32⟩
  | 2 => ⟨S2x2048x2048, .f32⟩
  | 3 => ⟨S2x2048x2048, .f32⟩
  | 4 => ⟨S2x2048x2048, .f32⟩
  | 5 => ⟨S2x2048x2048, .f32⟩
  | 6 => ⟨S2x2048x16, .f32⟩
  | 7 => ⟨S2x2048x16, .i32⟩
  | 8 => ⟨S2x2048x16, .f32⟩
  | 9 => ⟨S2, .i32⟩
  | 10 => ⟨S2x1x1, .i32⟩
  | 11 => ⟨S_, .i32⟩
  | 12 => ⟨S2x1x1, .i32⟩
  | 13 => ⟨S2x1x1, .i1⟩
  | 14 => ⟨S_, .i32⟩
  | 15 => ⟨S2x1x1, .i32⟩
  | 16 => ⟨S2x1x1, .i32⟩
  | 17 => ⟨S2x1x1, .i32⟩
  | 18 => ⟨S_, .i32⟩
  | 19 => ⟨S2x2048x16, .i32⟩
  | 20 => ⟨S2x2048x16, .i1⟩
  | 21 => ⟨S_, .i32⟩
  | 22 => ⟨S2x2048x16, .i32⟩
  | 23 => ⟨S2x2048x16, .i32⟩
  | 24 => ⟨S2x2048x16, .i32⟩
  | 25 => ⟨S2x2048x16, .i32⟩
  | 26 => ⟨S2x2048x16x1, .i32⟩
  | 27 => ⟨S2x2048x16x1, .i32⟩
  | 28 => ⟨S2x2048x16x2, .i32⟩
  | 29 => ⟨S2x2048x16x16x64, .f32⟩
  | 30 => ⟨S_, .i32⟩
  | 31 => ⟨S2x1x1, .i32⟩
  | 32 => ⟨S2x1x1, .i1⟩
  | 33 => ⟨S_, .i32⟩
  | 34 => ⟨S2x1x1, .i32⟩
  | 35 => ⟨S2x1x1, .i32⟩
  | 36 => ⟨S2x1x1, .i32⟩
  | 37 => ⟨S_, .i32⟩
  | 38 => ⟨S2x2048x16, .i32⟩
  | 39 => ⟨S2x2048x16, .i1⟩
  | 40 => ⟨S_, .i32⟩
  | 41 => ⟨S2x2048x16, .i32⟩
  | 42 => ⟨S2x2048x16, .i32⟩
  | 43 => ⟨S2x2048x16, .i32⟩
  | 44 => ⟨S2x2048x16, .i32⟩
  | 45 => ⟨S2x2048x16x1, .i32⟩
  | 46 => ⟨S2x2048x16x1, .i32⟩
  | 47 => ⟨S2x2048x16x2, .i32⟩
  | 48 => ⟨S2x2048x16x16x64, .f32⟩
  | 49 => ⟨S2x16x2048x16x64, .f32⟩
  | 50 => ⟨S2x16x2048x16x64, .f32⟩
  | 51 => ⟨S2x16x2048x16, .f32⟩
  | 52 => ⟨S_, .f32⟩
  | 53 => ⟨S_, .f32⟩
  | 54 => ⟨S2x16x2048x16, .f32⟩
  | 55 => ⟨S2x16x2048x16, .f32⟩
  | 56 => ⟨S_, .f32⟩
  | 57 => ⟨S_, .f32⟩
  | 58 => ⟨S_, .f32⟩
  | 59 => ⟨S2x1x2048x16, .f32⟩
  | 60 => ⟨S2x1x2048x16, .f32⟩
  | 61 => ⟨S2x1x2048x16, .f32⟩
  | 62 => ⟨S2x1x2048x16, .f32⟩
  | 63 => ⟨S2x16x2048x16, .f32⟩
  | 64 => ⟨S2x16x2048x16, .f32⟩
  | 65 => ⟨S_, .f32⟩
  | 66 => ⟨S2x16x2048, .f32⟩
  | 67 => ⟨S_, .f32⟩
  | 68 => ⟨S2x16x2048, .f32⟩
  | 69 => ⟨S2x16x2048, .f32⟩
  | 70 => ⟨S2x16x2048x1, .f32⟩
  | 71 => ⟨S2x16x2048x16, .f32⟩
  | 72 => ⟨S2x16x2048x16, .f32⟩
  | 73 => ⟨S2x16x2048x16, .f32⟩
  | 74 => ⟨S_, .f32⟩
  | 75 => ⟨S2x16x2048, .f32⟩
  | 76 => ⟨S2x16x2048x1, .f32⟩
  | 77 => ⟨S2x16x2048x16, .f32⟩
  | 78 => ⟨S2x16x2048x16, .f32⟩
  | 79 => ⟨S2x16x2048x64, .f32⟩
  | 80 => ⟨S2x2048x16x64, .f32⟩
  | 81 => ⟨S2x2048x1024, .f32⟩
  | 82 => ⟨S1024x1024, .f32⟩
  | 83 => ⟨S2x2048x1024, .f32⟩
  | 84 => ⟨S2x2048x1024, .f32⟩
  | 85 => ⟨S1x1x1024, .f32⟩
  | 86 => ⟨S2x2048x1024, .f32⟩
  | 87 => ⟨S2x2048x1024, .f32⟩
  | 88 => ⟨S_, .f32⟩
  | 89 => ⟨S2x2048, .f32⟩
  | 90 => ⟨S2x2048x1, .f32⟩
  | 91 => ⟨S_, .f32⟩
  | 92 => ⟨S2x2048x1, .f32⟩
  | 93 => ⟨S2x2048x1, .f32⟩
  | 94 => ⟨S_, .i32⟩
  | 95 => ⟨S_, .f32⟩
  | 96 => ⟨S2x2048, .f32⟩
  | 97 => ⟨S2x2048x1, .f32⟩
  | 98 => ⟨S_, .f32⟩
  | 99 => ⟨S2x2048x1, .f32⟩
  | 100 => ⟨S2x2048x1, .f32⟩
  | 101 => ⟨S2x2048x1024, .f32⟩
  | 102 => ⟨S2x2048x1024, .f32⟩
  | 103 => ⟨S2x2048x1024, .f32⟩
  | 104 => ⟨S_, .f32⟩
  | 105 => ⟨S_, .f32⟩
  | 106 => ⟨S_, .f32⟩
  | 107 => ⟨S_, .f32⟩
  | 108 => ⟨S2x2048, .f32⟩
  | 109 => ⟨S2x2048x1, .f32⟩
  | 110 => ⟨S2x2048x1, .f32⟩
  | 111 => ⟨S2x2048x1, .f32⟩
  | 112 => ⟨S_, .f32⟩
  | 113 => ⟨S_, .i1⟩
  | 114 => ⟨S_, .f32⟩
  | 115 => ⟨S_, .f32⟩
  | 116 => ⟨S2x2048x1, .f32⟩
  | 117 => ⟨S2x2048x1, .f32⟩
  | 118 => ⟨S2x2048x1024, .f32⟩
  | 119 => ⟨S2x2048x1024, .f32⟩
  | 120 => ⟨S_, .f32⟩
  | 121 => ⟨S2x2048x1, .f32⟩
  | 122 => ⟨S2x2048x1, .f32⟩
  | 123 => ⟨S2x2048x1, .f32⟩
  | 124 => ⟨S2x2048x1024, .f32⟩
  | 125 => ⟨S2x2048x1024, .f32⟩
  | 126 => ⟨S1x1x1024, .f32⟩
  | 127 => ⟨S2x2048x1024, .f32⟩
  | _ => ⟨S2x2048x1024, .f32⟩

abbrev hbmTy0_2 (i : Nat) : BufTy := match i % 128 with
  | 0 => ⟨S2x2048x1024, .f32⟩
  | 1 => ⟨S1x1x1024, .f32⟩
  | 2 => ⟨S2x2048x1024, .f32⟩
  | 3 => ⟨S2x2048x1024, .f32⟩
  | 4 => ⟨S1024x4096, .f32⟩
  | 5 => ⟨S2x2048x4096, .f32⟩
  | 6 => ⟨S1x1x4096, .f32⟩
  | 7 => ⟨S2x2048x4096, .f32⟩
  | 8 => ⟨S2x2048x4096, .f32⟩
  | 9 => ⟨S_, .f32⟩
  | 10 => ⟨S2x2048x4096, .f32⟩
  | 11 => ⟨S2x2048x4096, .f32⟩
  | 12 => ⟨S2x2048x4096, .f32⟩
  | 13 => ⟨S_, .f32⟩
  | 14 => ⟨S2x2048x4096, .f32⟩
  | 15 => ⟨S2x2048x4096, .f32⟩
  | 16 => ⟨S2x2048x4096, .f32⟩
  | 17 => ⟨S2x2048x4096, .f32⟩
  | 18 => ⟨S4096x1024, .f32⟩
  | 19 => ⟨S2x2048x1024, .f32⟩
  | 20 => ⟨S1x1x1024, .f32⟩
  | 21 => ⟨S2x2048x1024, .f32⟩
  | 22 => ⟨S2x2048x1024, .f32⟩
  | 23 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_cst_1 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_2 : Ref sig .tc := ⟨.hbm, 91, rfl⟩
abbrev main_v45 : Ref sig .tc := ⟨.hbm, 92, rfl⟩
abbrev main_v46 : Ref sig .tc := ⟨.hbm, 93, rfl⟩
abbrev main_cst_3 : Ref sig .tc := ⟨.hbm, 94, rfl⟩
abbrev main_v47 : Ref sig .tc := ⟨.hbm, 95, rfl⟩
abbrev main_v48 : Ref sig .tc := ⟨.hbm, 96, rfl⟩
abbrev main_cst_4 : Ref sig .tc := ⟨.hbm, 97, rfl⟩
abbrev main_v49 : Ref sig .tc := ⟨.hbm, 98, rfl⟩
abbrev main_cst_5 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_6 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_7 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_8 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_9 : Ref sig .tc := ⟨.hbm, 124, rfl⟩
abbrev main_v71 : Ref sig .tc := ⟨.hbm, 125, rfl⟩
abbrev main_v72 : Ref sig .tc := ⟨.hbm, 126, rfl⟩
abbrev main_cst_10 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_values : Ref sig .tc := ⟨.hbm, 134, rfl⟩
abbrev main_indices : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_c_11 : Ref sig .tc := ⟨.hbm, 139, rfl⟩
abbrev main_v82 : Ref sig .tc := ⟨.hbm, 140, rfl⟩
abbrev main_v83 : Ref sig .tc := ⟨.hbm, 141, rfl⟩
abbrev main_c_12 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_c_13 : Ref sig .tc := ⟨.hbm, 146, rfl⟩
abbrev main_v87 : Ref sig .tc := ⟨.hbm, 147, rfl⟩
abbrev main_v88 : Ref sig .tc := ⟨.hbm, 148, rfl⟩
abbrev main_c_14 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_c_15 : Ref sig .tc := ⟨.hbm, 158, rfl⟩
abbrev main_v97 : Ref sig .tc := ⟨.hbm, 159, rfl⟩
abbrev main_v98 : Ref sig .tc := ⟨.hbm, 160, rfl⟩
abbrev main_c_16 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_c_17 : Ref sig .tc := ⟨.hbm, 165, rfl⟩
abbrev main_v102 : Ref sig .tc := ⟨.hbm, 166, rfl⟩
abbrev main_v103 : Ref sig .tc := ⟨.hbm, 167, rfl⟩
abbrev main_c_18 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_19 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_cst_20 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_21 : Ref sig .tc := ⟨.hbm, 193, rfl⟩
abbrev main_v126 : Ref sig .tc := ⟨.hbm, 194, rfl⟩
abbrev main_cst_22 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_23 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_cst_24 : Ref sig .tc := ⟨.hbm, 216, rfl⟩
abbrev main_v146 : Ref sig .tc := ⟨.hbm, 217, rfl⟩
abbrev main_v147 : Ref sig .tc := ⟨.hbm, 218, rfl⟩
abbrev main_cst_25 : Ref sig .tc := ⟨.hbm, 219, rfl⟩
abbrev main_v148 : Ref sig .tc := ⟨.hbm, 220, rfl⟩
abbrev main_v149 : Ref sig .tc := ⟨.hbm, 221, rfl⟩
abbrev main_c_26 : Ref sig .tc := ⟨.hbm, 222, rfl⟩
abbrev main_call2_cst : Ref sig .tc := ⟨.hbm, 223, rfl⟩
abbrev main_call2_v0 : Ref sig .tc := ⟨.hbm, 224, rfl⟩
abbrev main_call2_v1 : Ref sig .tc := ⟨.hbm, 225, rfl⟩
abbrev main_call2_cst_0 : Ref sig .tc := ⟨.hbm, 226, rfl⟩
abbrev main_call2_v2 : Ref sig .tc := ⟨.hbm, 227, rfl⟩
abbrev main_call2_v3 : Ref sig .tc := ⟨.hbm, 228, rfl⟩
abbrev main_call2_v4 : Ref sig .tc := ⟨.hbm, 229, rfl⟩
abbrev main_call2_v5 : Ref sig .tc := ⟨.hbm, 230, rfl⟩
abbrev main_call2_v6 : Ref sig .tc := ⟨.hbm, 231, rfl⟩
abbrev main_call2_v7 : Ref sig .tc := ⟨.hbm, 232, rfl⟩
abbrev main_call2_cst_1 : Ref sig .tc := ⟨.hbm, 233, rfl⟩
abbrev main_call2_v8 : Ref sig .tc := ⟨.hbm, 234, rfl⟩
abbrev main_call2_cst_2 : Ref sig .tc := ⟨.hbm, 235, rfl⟩
abbrev main_call2_v9 : Ref sig .tc := ⟨.hbm, 236, rfl⟩
abbrev main_call2_v10 : Ref sig .tc := ⟨.hbm, 237, rfl⟩
abbrev main_call2_v11 : Ref sig .tc := ⟨.hbm, 238, rfl⟩
abbrev main_call2_v12 : Ref sig .tc := ⟨.hbm, 239, rfl⟩
abbrev main_call2_cst_3 : Ref sig .tc := ⟨.hbm, 240, rfl⟩
abbrev main_call2_v13 : Ref sig .tc := ⟨.hbm, 241, rfl⟩
abbrev main_call2_cst_4 : Ref sig .tc := ⟨.hbm, 242, rfl⟩
abbrev main_call2_call0_v0 : Ref sig .tc := ⟨.hbm, 243, rfl⟩
abbrev main_call2_call0_v1 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_cst_27 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_cst_28 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_cst_29 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section

set_option maxRecDepth 16384

noncomputable section

/-! The kernel program's run, with a final memory that is known in every buffer of the main program. -/

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one
set_option backward.isDefEq.respectTransparency.types false in
/-- Every weakly fair execution ends, and every buffer of the main program then holds the contents of the last
    boundary of the segments. -/
theorem run_all : θ_run defs (onTc (τ := τ) (main (F := Ideal))) ⟨m, fun _ => 0, ρ⟩ (fun r => ∀ c : Dev nD,
      ∀ b ∈ Pipeline.ucRefs τ sig, r.2.mem ((c : Thread nD τ).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W7 m ρ c b)
    (hfin := fun c s' => by
      iintro ⟨⟨Hh, -⟩, HSI⟩
      unfold StableHlo.held
      imodintro
      iapply (pointsTo_read_all (Pipeline.ucRefs τ sig) (fun b => ((c : Thread nD τ).1, b)) (W7 m ρ c) s')
      isplitl [Hh] <;> iassumption)
    (hQ := fun s h _ => h)

end Cert.KernelIdeal.Value

end
-- ==== Proof.Spec.lean ====
module

public import Idealize.ShloMosaic.PureOps.Ideal.Laws

@[expose] public section

noncomputable section

/-! The scalar functions in which the kernel's results and the reference's results are both read: a row's mean and
variance, its layer normalisation (the kernel's spelling and the reference's), one hyperbolic distance (again in both
spellings), and the exact GELU (in both spellings). Everything is over the extended reals; a constant of the program
is kept as the word that the program prints. -/

namespace Cert.Spec

open Idealize.ShloMosaic

/-- The mean of a row of 1024 entries. -/
def mean (x : Fin 1024 → EReal) : EReal := Ideal.div (∑ k, x k) (Ideal.ofBits .f32 1149239296#32)

/-- The variance of a row of 1024 entries. -/
def var (x : Fin 1024 → EReal) : EReal :=
  Ideal.div (∑ k, (x k - mean x) * (x k - mean x)) (Ideal.ofBits .f32 1149239296#32)

/-- Layer normalisation of a row, by the reciprocal square root. -/
def lnK (x g b : Fin 1024 → EReal) (t : Fin 1024) : EReal :=
  (x t - mean x) * Ideal.rsqrt (var x + Ideal.ofBits .f32 925353388#32) * g t + b t

/-- Layer normalisation of a row, by a division. -/
def lnR (x g b : Fin 1024 → EReal) (t : Fin 1024) : EReal :=
  Ideal.div (x t - mean x) (Ideal.sqrt (var x + Ideal.ofBits .f32 925353388#32)) * g t + b t

/-- A number, plus an inner product, plus a shift. -/
def res {n : ℕ} (x : EReal) (a w : Fin n → EReal) (b : EReal) : EReal := x + ∑ k, a k * w k + b

/-- One entry of a linear layer. -/
def lin {n : ℕ} (a w : Fin n → EReal) (b : EReal) : EReal := ∑ k, a k * w k + b

/-- The squared distance of two points, expanded. -/
def sqK (p q : Fin 64 → EReal) : EReal :=
  ∑ x, p x * p x + ∑ x, q x * q x - Ideal.ofBits .f32 1073741824#32 * ∑ x, p x * q x

/-- The denominator of the distance's argument. -/
def denom (c : EReal) (p q : Fin 64 → EReal) : EReal :=
  (1 - c * ∑ x, p x * p x) * (1 - c * ∑ x, q x * q x) + Ideal.ofBits .f32 841731191#32

/-- The hyperbolic distance of the query `p` from the point `q`, with the logarithm. -/
def distK (c : EReal) (p q : Fin 64 → EReal) : EReal :=
  Ideal.div
    (Ideal.log (max (1 + Ideal.div (Ideal.ofBits .f32 1073741824#32 * c * sqK p q) (denom c p q)) 1 +
      Ideal.sqrt (max (1 + Ideal.div (Ideal.ofBits .f32 1073741824#32 * c * sqK p q) (denom c p q)) 1 *
        max (1 + Ideal.div (Ideal.ofBits .f32 1073741824#32 * c * sqK p q) (denom c p q)) 1 - 1)))
    (Ideal.sqrt c)

/-- The hyperbolic distance of the query `p` from the point `q`, with the inverse hyperbolic cosine. -/
def distR (c : EReal) (p q : Fin 64 → EReal) : EReal :=
  Ideal.div
    (Ideal.acosh (max (1 + Ideal.div
        (Ideal.ofBits .f32 1073741824#32 * c * ∑ x, (q x - p x) * (q x - p x))
        ((1 - c * ∑ x, q x * q x) * (1 - c * ∑ x, p x * p x) + Ideal.ofBits .f32 841731191#32)) 1))
    (Ideal.sqrt c)

/-- One round of the selection: every smallest entry becomes infinite. -/
def rnd (w : Fin 2048 → EReal) (j : Fin 2048) : EReal := if w j = Finset.univ.inf w then ⊤ else w j

/-- The distances with the query's own taken away. -/
def work0 (d : Fin 2048 → EReal) (i j : Fin 2048) : EReal := if j = i then ⊤ else d j

/-- The inverse temperature. -/
def invTau (l : EReal) : EReal := Ideal.div 1 (Ideal.exp l + Ideal.ofBits .f32 841731191#32)

/-- The additive mask of query `i`: minus the scaled distance where a key is selected, minus infinity elsewhere. -/
def maskK (l : EReal) (d : Fin 2048 → EReal) (i j : Fin 2048) : EReal :=
  if rnd^[15] (work0 d i) j = ⊤ then d j * (0 - invTau l) else ⊥

/-- One entry of one head's output, over all keys: a quotient of two weighted sums. -/
def headK (g : Fin 2048 → EReal) (q : Fin 64 → EReal) (k : Fin 2048 → Fin 64 → EReal) (v o : Fin 2048 → EReal) : EReal :=
  Ideal.div (∑ x, Ideal.exp (∑ y, q y * k x y + g x) * v x) (∑ x, Ideal.exp (∑ y, q y * k x y + g x) * o x)

/-- The exact GELU, by the error function. -/
def geluK (h : EReal) : EReal :=
  Ideal.ofBits .f32 1056964608#32 * h * (1 + Ideal.erf (h * Ideal.ofBits .f32 1060439283#32))

/-- The exact GELU, by the complementary error function. -/
def geluR (h : EReal) : EReal :=
  Ideal.ofBits .f32 1056964608#32 * h * Ideal.erfc (-h * Ideal.ofBits .f32 1060439283#32)

end Cert.Spec

end
-- ==== Proof.Model.lean ====
module

public import proofs.«01_k».proof.Proof.Spec
public import Idealize.ShloMosaic.PureOps.ShapeOps

@[expose] public section

noncomputable section

/-! The whole block, as functions of plain arrays: once as the kernel computes it and once as the reference does. The
two are read off the programs in the modules on the two runs, and compared in the modules on the mathematics. -/

namespace Cert.Spec

open Idealize.ShloMosaic

/-- The arguments as plain functions. -/
structure Args where
  x : Fin 2 → Fin 2048 → Fin 1024 → EReal
  pos : Fin 2 → Fin 2048 → Fin 64 → EReal
  c : EReal
  wq : Fin 1024 → Fin 1024 → EReal
  bq : Fin 1024 → EReal
  wk : Fin 1024 → Fin 1024 → EReal
  bk : Fin 1024 → EReal
  wv : Fin 1024 → Fin 1024 → EReal
  bv : Fin 1024 → EReal
  wo : Fin 1024 → Fin 1024 → EReal
  bo : Fin 1024 → EReal
  w1 : Fin 4096 → Fin 1024 → EReal
  b1 : Fin 4096 → EReal
  w2 : Fin 1024 → Fin 4096 → EReal
  b2 : Fin 1024 → EReal
  g1 : Fin 1024 → EReal
  be1 : Fin 1024 → EReal
  g2 : Fin 1024 → EReal
  be2 : Fin 1024 → EReal
  lt : EReal

/-- Column `y` of the head that column `e` belongs to. -/
def col (e : Fin 1024) (y : Fin 64) : Fin 1024 := ⟨e.val / 64 * 64 + y.val, by omega⟩

namespace Args

variable (A : Args)

/-- The kernel's distance of query `n` from key `j`. -/
def dK (b : Fin 2) (n j : Fin 2048) : EReal := distK A.c (A.pos b n) (A.pos b j)

def qK (b : Fin 2) (n : Fin 2048) (e : Fin 1024) : EReal :=
  lin (lnK (A.x b n) A.g1 A.be1) (A.wq e) (A.bq e) * Ideal.div 1 (Ideal.sqrt (Ideal.ofBits .f32 1115684864#32))

def kK (b : Fin 2) (n : Fin 2048) (e : Fin 1024) : EReal := lin (lnK (A.x b n) A.g1 A.be1) (A.wk e) (A.bk e)

def vK (b : Fin 2) (n : Fin 2048) (e : Fin 1024) : EReal := lin (lnK (A.x b n) A.g1 A.be1) (A.wv e) (A.bv e)

/-- The kernel's attention output. -/
def attnK (b : Fin 2) (n : Fin 2048) (e : Fin 1024) : EReal :=
  headK (maskK A.lt (A.dK b n) n) (fun y => A.qK b n (col e y)) (fun j y => A.kK b j (col e y)) (fun j => A.vK b j e) (fun _ => 1)

def x1K (b : Fin 2) (n : Fin 2048) (t : Fin 1024) : EReal := res (A.x b n t) (A.attnK b n) (A.wo t) (A.bo t)

/-- The kernel's result. -/
def outK (b : Fin 2) (n : Fin 2048) (t : Fin 1024) : EReal :=
  res (A.x1K b n t) (fun j => geluK (lin (lnK (A.x1K b n) A.g2 A.be2) (A.w1 j) (A.b1 j))) (A.w2 t) (A.b2 t)

/-- The reference's distance of query `n` from key `j`. -/
def dR (b : Fin 2) (n j : Fin 2048) : EReal := distR A.c (A.pos b n) (A.pos b j)

def qR (b : Fin 2) (n : Fin 2048) (e : Fin 1024) : EReal := lin (lnR (A.x b n) A.g1 A.be1) (A.wq e) (A.bq e)

def kR (b : Fin 2) (n : Fin 2048) (e : Fin 1024) : EReal := lin (lnR (A.x b n) A.g1 A.be1) (A.wk e) (A.bk e)

def vR (b : Fin 2) (n : Fin 2048) (e : Fin 1024) : EReal := lin (lnR (A.x b n) A.g1 A.be1) (A.wv e) (A.bv e)

end Args

/-- The key at place `r` when the keys are sorted by decreasing negated distance. -/
def nth (d : Fin 2048 → EReal) (r : Fin 2048) : Fin 2048 :=
  sortedFrom (fun k k' => FloatOps.cmpfTotal (F := Ideal) (φ := .f32) .gt (-d k) (-d k') == 1#1) r

/-- The largest of a row's sixteen logits, as the reference's softmax takes it. -/
def top (a : Fin 16 → EReal) : EReal :=
  max (Ideal.ofBits .f32 4286578688#32) (Finset.fold max (Ideal.ofBits .f32 4286578688#32) a Finset.univ)

/-- The softmax of sixteen logits. -/
def soft (a : Fin 16 → EReal) (r : Fin 16) : EReal := Ideal.div (Ideal.exp (a r - top a)) (∑ s, Ideal.exp (a s - top a))

namespace Args

variable (A : Args)

/-- The `r`-th nearest key of query `n`. -/
def near (b : Fin 2) (n : Fin 2048) (r : Fin 16) : Fin 2048 := nth (A.dR b n) ⟨r.val, by omega⟩

/-- The reference's logits of one query, for the head of column `e`. -/
def logit (b : Fin 2) (n : Fin 2048) (e : Fin 1024) (r : Fin 16) : EReal :=
  Ideal.div (∑ y, A.qR b n (col e y) * A.kR b (A.near b n r) (col e y)) (Ideal.sqrt (Ideal.ofBits .f32 1115684864#32))
    + Ideal.div (- -(-A.dR b n (A.near b n r))) (Ideal.exp A.lt + Ideal.ofBits .f32 841731191#32)

/-- The reference's attention output. -/
def attnR (b : Fin 2) (n : Fin 2048) (e : Fin 1024) : EReal := ∑ r, soft (A.logit b n e) r * A.vR b (A.near b n r) e

def x1R (b : Fin 2) (n : Fin 2048) (t : Fin 1024) : EReal := res (A.x b n t) (A.attnR b n) (A.wo t) (A.bo t)

/-- The reference's result. -/
def outR (b : Fin 2) (n : Fin 2048) (t : Fin 1024) : EReal :=
  A.x1R b n t + lin (fun j => geluR (lin (lnR (A.x1R b n) A.g2 A.be2) (A.w1 j) (A.b1 j))) (A.w2 t) (A.b2 t)

end Args

end Cert.Spec

end
-- ==== Proof.RefNear.lean ====
module

public import proofs.«01_k».proof.Proof.Gen.ReferenceIdeal.Read
public import proofs.«01_k».proof.Proof.Model
public import Idealize.ShloMosaic.Lib.Pointwise

@[expose] public section

noncomputable section

/-! The reference's distances, its sixteen nearest keys of each query, and the rows that it gathers for them. -/

namespace Cert.ReferenceIdeal.Read

open Cert.ReferenceIdeal Cert.ReferenceIdeal.Gen Cert.Spec
open Idealize.ShloMosaic Idealize.SL.Sem

/-- The distances of query `n` from every key, as the reference computes them. -/
def dist (x1 : (⟨S2x2048x64, .f32⟩ : BufTy).Contents (Elt Ideal)) (x2 : (⟨S1, .f32⟩ : BufTy).Contents (Elt Ideal)) (b : Fin 2) (n j : Fin 2048) : EReal :=
  distR (x2 (ix1 0)) (fun x => x1 (ix3 b n x)) (fun x => x1 (ix3 b j x))

theorem v78_apply (x1 x2) (b : Fin 2) (n j : Fin 2048) :
   val_main_v78 (F := Ideal) x1 x2 (ix3 b n j) = - dist x1 x2 b n j := by
  unfold val_main_v78 val_main_v77 val_main_v76 val_main_v75 val_main_v74 val_main_v73 val_main_cst_10 val_main_v72 val_main_v71 val_main_cst_9 val_main_v70 val_main_v69 val_main_v68 val_main_cst_8 val_main_v67 val_main_v66 val_main_v65 val_main_v64 val_main_v63 val_main_cst_7 val_main_v62 val_main_v61 val_main_v60 val_main_v59 val_main_v58 val_main_cst_6 val_main_v57 val_main_v56 val_main_v55 val_main_v54 val_main_v53 val_main_v52 val_main_v51 val_main_v50 val_main_cst_5 val_main_v49 val_main_cst_4 val_main_v48 val_main_v47 val_main_cst_3 val_main_v46 val_main_v45 val_main_cst_2 val_main_v44 val_main_v43 val_main_v42 val_main_v41 val_main_v40 val_main_v39 val_main_v38 val_main_v37
  pointwise
  rfl

/-- The last axis. -/
abbrev lastAx : Fin S2x2048x2048.rank := ⟨2, by decide⟩

theorem toInt_small (k : ℕ) (hk : k < 2048) : (BitVec.ofNat 32 k).toInt = k := by
  have h : (BitVec.ofNat 32 k).toNat = k := by
    rw [BitVec.toNat_ofNat]; exact Nat.mod_eq_of_lt (by omega)
  rw [BitVec.toInt_eq_toNat_of_lt (by omega), h]

theorem along_ix3 (b : Fin 2) (n j : Fin 2048) :
    (fun k : Fin 2048 => Shape.Idx.along (s := S2x2048x2048) (ix3 b n j) lastAx k) = fun k => ix3 b n k := by
  funext k a
  fin_cases a <;> rfl

/-- A sort of pairs along the last axis: the keys' entry at a place. -/
theorem sort_fst (cmp : Ideal .f32 × BitVec 32 → Ideal .f32 × BitVec 32 → BitVec 1) (x : S2x2048x2048.Idx → Ideal .f32) (y : S2x2048x2048.Idx → BitVec 32)
    (b : Fin 2) (n j : Fin 2048) :
    (Host.sort2 S2x2048x2048 2 cmp x y).1 (ix3 b n j) =
      x (ix3 b n (sortedFrom (fun k k' : Fin 2048 => cmp (x (ix3 b n k), y (ix3 b n k)) (x (ix3 b n k'), y (ix3 b n k')) == 1#1) j)) := by
  unfold Host.sort2
  rw [dif_pos (by decide)]
  exact congrArg (fun F : Fin 2048 → S2x2048x2048.Idx => x (F (sortedFrom (fun k k' : Fin 2048 => cmp (x (F k), y (F k)) (x (F k'), y (F k')) == 1#1) j))) (along_ix3 b n j)

/-- A sort of pairs along the last axis: the carried word at a place. -/
theorem sort_snd (cmp : Ideal .f32 × BitVec 32 → Ideal .f32 × BitVec 32 → BitVec 1) (x : S2x2048x2048.Idx → Ideal .f32) (y : S2x2048x2048.Idx → BitVec 32)
    (b : Fin 2) (n j : Fin 2048) :
    (Host.sort2 S2x2048x2048 2 cmp x y).2 (ix3 b n j) =
      y (ix3 b n (sortedFrom (fun k k' : Fin 2048 => cmp (x (ix3 b n k), y (ix3 b n k)) (x (ix3 b n k'), y (ix3 b n k')) == 1#1) j)) := by
  unfold Host.sort2
  rw [dif_pos (by decide)]
  exact congrArg (fun F : Fin 2048 → S2x2048x2048.Idx => y (F (sortedFrom (fun k k' : Fin 2048 => cmp (x (F k), y (F k)) (x (F k'), y (F k')) == 1#1) j))) (along_ix3 b n j)

/-- The sort of one query's negated distances puts key `nth` at each place. -/
theorem place (x1 x2) (b : Fin 2) (n j : Fin 2048) :
    sortedFrom (fun k k' : Fin 2048 => FloatOps.cmpfTotal (F := Ideal) (φ := .f32) .gt
      (val_main_v78 (F := Ideal) x1 x2 (ix3 b n k)) (val_main_v78 (F := Ideal) x1 x2 (ix3 b n k')) == 1#1) j
      = nth (dist x1 x2 b n) j := by
  unfold nth
  simp only [v78_apply]

theorem indices_apply (x1 x2) (b : Fin 2) (n : Fin 2048) (j : Fin 16) :
   val_main_indices (F := Ideal) x1 x2 (ix3 b n j) = BitVec.ofNat 32 (nth (dist x1 x2 b n) ⟨j.val, by omega⟩).val := by
  unfold val_main_indices Host.topK
  pointwise
  refine (sort_snd _ _ _ b n _).trans ?_
  exact congrArg (fun z : Fin 2048 => BitVec.ofNat 32 z.val) (place x1 x2 b n _)

theorem values_apply (x1 x2) (b : Fin 2) (n : Fin 2048) (j : Fin 16) :
   val_main_values (F := Ideal) x1 x2 (ix3 b n j) = - dist x1 x2 b n (nth (dist x1 x2 b n) ⟨j.val, by omega⟩) := by
  unfold val_main_values Host.topK
  pointwise
  refine (sort_fst _ _ _ b n _).trans ?_
  refine (v78_apply x1 x2 b n _).trans ?_
  exact congrArg (fun z : Fin 2048 => - dist x1 x2 b n z) (place x1 x2 b n _)

/-- A gathered row: batch entry `b`, key `j`. -/
theorem gather_idx (idx : IVec S2x2048x16x2 32) (b : Fin 2) (n : Fin 2048) (r h : Fin 16) (t : Fin 64) (j : Fin 2048)
    (hb : idx (ix4 b n r 0) = BitVec.ofNat 32 b.val) (hj : idx (ix4 b n r 1) = BitVec.ofNat 32 j.val) :
    gather_S2x2048x16x64_S2x2048x16x2_S2x2048x16x16x64_34_01_n_n_01_3_111664.operandIdx (ix5 b n r h t) idx = ix4 b j h t := by
  have hbl := b.isLt
  have hjl := j.isLt
  have e0 : (BitVec.ofNat 32 b.val).toInt.toNat = b.val := by
    rw [toInt_small _ (by omega), Int.toNat_natCast]
  have e1 : (BitVec.ofNat 32 j.val).toInt.toNat = j.val := by
    rw [toInt_small _ (by omega), Int.toNat_natCast]
  have s0 : gather_S2x2048x16x64_S2x2048x16x2_S2x2048x16x16x64_34_01_n_n_01_3_111664.start (ix5 b n r h t) idx 0 = b.val := by
    unfold GatherDims.start
    rw [dif_pos (by decide)]
    have : gather_S2x2048x16x64_S2x2048x16x2_S2x2048x16x16x64_34_01_n_n_01_3_111664.siIdx (ix5 b n r h t) ⟨List.idxOf 0 gather_S2x2048x16x64_S2x2048x16x2_S2x2048x16x16x64_34_01_n_n_01_3_111664.startIndexMap, by decide⟩ = ix4 b n r 0 := by
      funext a; fin_cases a <;> rfl
    rw [this, hb, e0]
    exact min_eq_left (by change b.val ≤ 2 - 1; omega)
  have s1 : gather_S2x2048x16x64_S2x2048x16x2_S2x2048x16x16x64_34_01_n_n_01_3_111664.start (ix5 b n r h t) idx 1 = j.val := by
    unfold GatherDims.start
    rw [dif_pos (by decide)]
    have : gather_S2x2048x16x64_S2x2048x16x2_S2x2048x16x16x64_34_01_n_n_01_3_111664.siIdx (ix5 b n r h t) ⟨List.idxOf 1 gather_S2x2048x16x64_S2x2048x16x2_S2x2048x16x16x64_34_01_n_n_01_3_111664.startIndexMap, by decide⟩ = ix4 b n r 1 := by
      funext a; fin_cases a <;> rfl
    rw [this, hj, e1]
    exact min_eq_left (by change j.val ≤ 2048 - 1; omega)
  funext a
  fin_cases a
  · exact Fin.ext s0
  · exact Fin.ext s1
  · exact Fin.ext (Nat.zero_add h.val)
  · exact Fin.ext (Nat.zero_add t.val)

theorem wrap (N : BitVec 32) (k : ℕ) (hk : k < 2048) :
    Scalar.select (IntOp.cmpi CmpIPredicate.slt (BitVec.ofNat 32 k) 0#32) (IntOp.addi (BitVec.ofNat 32 k) N) (BitVec.ofNat 32 k) = BitVec.ofNat 32 k := by
  have h : IntOp.cmpi CmpIPredicate.slt (BitVec.ofNat 32 k) 0#32 = 0#1 := by
    have : (BitVec.ofNat 32 k).slt 0#32 = false := by
      rw [BitVec.slt_eq_decide, toInt_small _ hk]; simp
    simp only [IntOp.cmpi, this]
    rfl
  rw [h]
  rfl

theorem v95_0 (x1 x2) (b : Fin 2) (n : Fin 2048) (r : Fin 16) :
   val_main_v95 (F := Ideal) x1 x2 (ix4 b n r 0) = BitVec.ofNat 32 b.val := by
  unfold val_main_v95 val_main_v94 val_main_v93 val_main_v92 val_main_v91 val_main_v90 val_main_v89 val_main_c_14 val_main_v88 val_main_v87 val_main_c_13 val_main_v86 val_main_v85 val_main_v84 val_main_c_12 val_main_v83 val_main_v82 val_main_c_11 val_main_v81 val_main_v80
  pointwise
  rw [wrap _ _ (by omega)]

theorem v95_1 (x1 x2) (b : Fin 2) (n : Fin 2048) (r : Fin 16) :
   val_main_v95 (F := Ideal) x1 x2 (ix4 b n r 1) = BitVec.ofNat 32 (nth (dist x1 x2 b n) ⟨r.val, by omega⟩).val := by
  unfold val_main_v95 val_main_v94 val_main_v93 val_main_v92 val_main_v91 val_main_v90 val_main_v89 val_main_c_14 val_main_v88 val_main_v87 val_main_c_13 val_main_v86 val_main_v85 val_main_v84 val_main_c_12 val_main_v83 val_main_v82 val_main_c_11 val_main_v81 val_main_v80
  pointwise
  rw [indices_apply, wrap _ _ (nth _ _).isLt]

theorem v96_apply (x1 x2 x0 x5 x6 x15 x16) (b : Fin 2) (n : Fin 2048) (r h : Fin 16) (t : Fin 64) :
   val_main_v96 (F := Ideal) x0 x1 x2 x5 x6 x15 x16 (ix5 b n r h t) = val_main_v30 (F := Ideal) x0 x5 x6 x15 x16 (ix4 b (nth (dist x1 x2 b n) ⟨r.val, by omega⟩) h t) := by
  unfold val_main_v96 Host.gather
  rw [gather_idx _ b n r h t _ (v95_0 x1 x2 b n r) (v95_1 x1 x2 b n r)]

theorem v110_0 (x1 x2) (b : Fin 2) (n : Fin 2048) (r : Fin 16) :
   val_main_v110 (F := Ideal) x1 x2 (ix4 b n r 0) = BitVec.ofNat 32 b.val := by
  unfold val_main_v110 val_main_v109 val_main_v108 val_main_v107 val_main_v106 val_main_v105 val_main_v104 val_main_c_18 val_main_v103 val_main_v102 val_main_c_17 val_main_v101 val_main_v100 val_main_v99 val_main_c_16 val_main_v98 val_main_v97 val_main_c_15 val_main_v81 val_main_v80
  pointwise
  rw [wrap _ _ (by omega)]

theorem v110_1 (x1 x2) (b : Fin 2) (n : Fin 2048) (r : Fin 16) :
   val_main_v110 (F := Ideal) x1 x2 (ix4 b n r 1) = BitVec.ofNat 32 (nth (dist x1 x2 b n) ⟨r.val, by omega⟩).val := by
  unfold val_main_v110 val_main_v109 val_main_v108 val_main_v107 val_main_v106 val_main_v105 val_main_v104 val_main_c_18 val_main_v103 val_main_v102 val_main_c_17 val_main_v101 val_main_v100 val_main_v99 val_main_c_16 val_main_v98 val_main_v97 val_main_c_15 val_main_v81 val_main_v80
  pointwise
  rw [indices_apply, wrap _ _ (nth _ _).isLt]

theorem v111_apply (x1 x2 x0 x7 x8 x15 x16) (b : Fin 2) (n : Fin 2048) (r h : Fin 16) (t : Fin 64) :
   val_main_v111 (F := Ideal) x0 x1 x2 x7 x8 x15 x16 (ix5 b n r h t) = val_main_v36 (F := Ideal) x0 x7 x8 x15 x16 (ix4 b (nth (dist x1 x2 b n) ⟨r.val, by omega⟩) h t) := by
  unfold val_main_v111 Host.gather
  rw [gather_idx _ b n r h t _ (v110_0 x1 x2 b n r) (v110_1 x1 x2 b n r)]

end Cert.ReferenceIdeal.Read

end
-- ==== Proof.Finite.lean ====
module

public import proofs.«01_k».proof.Proof.Spec

@[expose] public section

noncomputable section

/-! Finite extended reals: the sums, products and quotients of the model stay finite, the constants are positive reals,
and the two spellings of layer normalisation and of GELU agree. -/

namespace Cert.Spec

open Idealize.ShloMosaic

/-- A finite extended real. -/
def IsFin (x : EReal) : Prop := ∃ r : ℝ, x = r

theorem IsFin.add {x y : EReal} (hx : IsFin x) (hy : IsFin y) : IsFin (x + y) := by
  obtain ⟨a, rfl⟩ := hx
  obtain ⟨b, rfl⟩ := hy
  exact ⟨a + b, rfl⟩

theorem IsFin.sub {x y : EReal} (hx : IsFin x) (hy : IsFin y) : IsFin (x - y) := by
  obtain ⟨a, rfl⟩ := hx
  obtain ⟨b, rfl⟩ := hy
  exact ⟨a - b, rfl⟩

theorem IsFin.mul {x y : EReal} (hx : IsFin x) (hy : IsFin y) : IsFin (x * y) := by
  obtain ⟨a, rfl⟩ := hx
  obtain ⟨b, rfl⟩ := hy
  exact ⟨a * b, rfl⟩

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsFin.sum {ι : Type*} [Fintype ι] {f : ι → EReal} (h : ∀ i, IsFin (f i)) : IsFin (∑ i, f i) := by
  choose g hg using h
  exact ⟨∑ i, g i, by simp only [hg, sum_coe]⟩

theorem IsFin.div {x : EReal} (hx : IsFin x) {r : ℝ} (hr : 0 < r) : IsFin (Ideal.div x r) := by
  rw [Ideal.div_coe hr.ne']
  exact hx.mul ⟨_, rfl⟩

/-- Multiplication by a positive real distributes over any finite sum. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

theorem word_1024 : Ideal.ofBits .f32 1149239296#32 = ((1024 : ℝ) : EReal) := by
  simp [Ideal.ofBits, Ideal.ieee, -EReal.coe_mul]; norm_num

theorem word_64 : Ideal.ofBits .f32 1115684864#32 = ((64 : ℝ) : EReal) := by
  simp [Ideal.ofBits, Ideal.ieee, -EReal.coe_mul]; norm_num

theorem word_2 : Ideal.ofBits .f32 1073741824#32 = ((2 : ℝ) : EReal) := by
  simp [Ideal.ofBits, Ideal.ieee, -EReal.coe_mul]; norm_num

theorem word_bot : Ideal.ofBits .f32 4286578688#32 = ⊥ := by
  simp [Ideal.ofBits, Ideal.ieee]

theorem word_eps5 : ∃ r : ℝ, 0 < r ∧ Ideal.ofBits .f32 925353388#32 = (r : EReal) := by
  refine ⟨_, ?_, by simp only [Ideal.ofBits, Ideal.ieee]; simp [-EReal.coe_mul]; rfl⟩
  norm_num

theorem word_eps8 : ∃ r : ℝ, 0 < r ∧ Ideal.ofBits .f32 841731191#32 = (r : EReal) := by
  refine ⟨_, ?_, by simp only [Ideal.ofBits, Ideal.ieee]; simp [-EReal.coe_mul]; rfl⟩
  norm_num

theorem sq_nonneg' (z : EReal) : 0 ≤ z * z := by
  induction z with
  | bot => simp
  | top => simp
  | coe r => exact_mod_cast mul_self_nonneg r

/-- A difference is finite only if both its terms are. -/
theorem IsFin.of_sub {x y : EReal} (h : IsFin (x - y)) : IsFin x ∧ IsFin y := by
  obtain ⟨r, h⟩ := h
  induction x with
  | bot => rw [EReal.bot_sub] at h; exact absurd h.symm (EReal.coe_ne_bot r)
  | top =>
    induction y with
    | bot => exact absurd h.symm (EReal.coe_ne_top r)
    | top => exact absurd h.symm (EReal.coe_ne_bot r)
    | coe b => rw [EReal.top_sub_coe] at h; exact absurd h.symm (EReal.coe_ne_top r)
  | coe a =>
    induction y with
    | bot => rw [EReal.coe_sub_bot] at h; exact absurd h.symm (EReal.coe_ne_top r)
    | top => rw [EReal.sub_top] at h; exact absurd h.symm (EReal.coe_ne_bot r)
    | coe b => exact ⟨⟨a, rfl⟩, ⟨b, rfl⟩⟩

theorem sq_of_not_fin {z : EReal} (h : ¬ IsFin z) : z * z = ⊤ := by
  induction z with
  | bot => exact EReal.bot_mul_bot
  | top => exact EReal.top_mul_top
  | coe r => exact absurd ⟨r, rfl⟩ h

/-- A sum of squares with a term that is not finite. -/
theorem sum_sq_top {ι : Type*} [Fintype ι] {f : ι → EReal} {i : ι} (h : ¬ IsFin (f i)) : ∑ j, f j * f j = ⊤ := by
  refine top_le_iff.1 ?_
  rw [← sq_of_not_fin h]
  exact Finset.single_le_sum (f := fun j => f j * f j) (fun j _ => sq_nonneg' _) (Finset.mem_univ i)

theorem var_nonneg (x : Fin 1024 → EReal) : 0 ≤ var x := by
  unfold var
  rw [word_1024, Ideal.div_coe (by norm_num)]
  exact mul_nonneg (Finset.sum_nonneg fun k _ => sq_nonneg' _) (by exact_mod_cast (by norm_num : (0 : ℝ) ≤ 1 / 1024))

/-- The reciprocal square root of a positive number is a division by its square root. -/
theorem mul_rsqrt (a : EReal) {w : EReal} (hw : 0 < w) : a * Ideal.rsqrt w = Ideal.div a (Ideal.sqrt w) := by
  induction w with
  | bot => simp at hw
  | top =>
    show a * 0 = (if (⊤ : EReal) = 0 then _ else a * (⊤ : EReal)⁻¹)
    rw [if_neg (by simp), EReal.inv_top]
  | coe r =>
    have hr : 0 < r := by exact_mod_cast hw
    have e1 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg hr.not_gt, if_neg hr.ne']
    have e2 : Ideal.sqrt (r : EReal) = ((Real.sqrt r : ℝ) : EReal) := by
      show (if r < 0 then (⊥ : EReal) else ((Real.sqrt r : ℝ) : EReal)) = _
      rw [if_neg hr.not_gt]
    rw [e1, e2, Ideal.div_coe (Real.sqrt_pos.2 hr).ne', one_div]

theorem var_add_pos (x : Fin 1024 → EReal) : 0 < var x + Ideal.ofBits .f32 925353388#32 := by
  obtain ⟨r, hr, h⟩ := word_eps5
  rw [h]
  exact lt_of_lt_of_le (by exact_mod_cast hr : (0 : EReal) < r) (le_add_of_nonneg_left (var_nonneg x))

/-- The two spellings of layer normalisation agree. -/
theorem lnK_eq (x g b : Fin 1024 → EReal) : lnK x g b = lnR x g b := by
  funext t
  unfold lnK lnR
  rw [mul_rsqrt _ (var_add_pos x)]

/-- The two spellings of GELU agree. -/
theorem geluK_eq (h : EReal) : geluK h = geluR h := by
  unfold geluK geluR
  rw [neg_mul, Ideal.erfc_neg]

theorem mean_fin {x : Fin 1024 → EReal} (hx : ∀ k, IsFin (x k)) : IsFin (mean x) := by
  unfold mean
  rw [word_1024]
  exact (IsFin.sum hx).div (by norm_num)

theorem var_fin {x : Fin 1024 → EReal} (hx : ∀ k, IsFin (x k)) : IsFin (var x) := by
  unfold var
  rw [word_1024]
  exact (IsFin.sum fun k => ((hx k).sub (mean_fin hx)).mul ((hx k).sub (mean_fin hx))).div (by norm_num)

/-- A row with an entry that is not finite has an infinite variance. -/
theorem var_top {x : Fin 1024 → EReal} {k : Fin 1024} (hk : ¬ IsFin (x k)) : var x = ⊤ := by
  unfold var
  rw [sum_sq_top (i := k) fun h => hk h.of_sub.1, word_1024, Ideal.div_coe (by norm_num)]
  exact EReal.top_mul_coe_of_pos (by norm_num)

/-- A normalised row is finite, whatever the row is: a row with an entry that is not finite normalises to the shift. -/
theorem lnR_fin (x : Fin 1024 → EReal) {g b : Fin 1024 → EReal} (hg : ∀ k, IsFin (g k)) (hb : ∀ k, IsFin (b k)) (t : Fin 1024) :
    IsFin (lnR x g b t) := by
  unfold lnR
  refine IsFin.add (IsFin.mul ?_ (hg t)) (hb t)
  rw [← mul_rsqrt _ (var_add_pos x)]
  by_cases hx : ∀ k, IsFin (x k)
  · refine ((hx t).sub (mean_fin hx)).mul ?_
    obtain ⟨e, -, he⟩ := word_eps5
    obtain ⟨v, hv⟩ := (var_fin hx).add ⟨e, he⟩
    have hp := var_add_pos x
    rw [hv] at hp ⊢
    have hr : 0 < v := by exact_mod_cast hp
    refine ⟨(Real.sqrt v)⁻¹, ?_⟩
    show (if v < 0 then (⊥ : EReal) else if v = 0 then ⊤ else (((Real.sqrt v)⁻¹ : ℝ) : EReal)) = _
    rw [if_neg hr.not_gt, if_neg hr.ne']
  · obtain ⟨k, hk⟩ := not_forall.1 hx
    obtain ⟨e, -, he⟩ := word_eps5
    rw [var_top hk, he, EReal.top_add_coe]
    refine ⟨0, ?_⟩
    show _ * (0 : EReal) = _
    rw [mul_zero]
    rfl

theorem lin_fin {n : ℕ} {a w : Fin n → EReal} {b : EReal} (ha : ∀ k, IsFin (a k)) (hw : ∀ k, IsFin (w k)) (hb : IsFin b) :
    IsFin (lin a w b) := (IsFin.sum fun k => (ha k).mul (hw k)).add hb

end Cert.Spec

end
-- ==== Proof.Distance.lean ====
module

public import proofs.«01_k».proof.Proof.Finite

@[expose] public section

noncomputable section

/-! The hyperbolic distance: its two spellings agree at finite points, it is not negative unless the curvature is zero,
and a point is at distance zero from itself. -/

namespace Cert.Spec

open Idealize.ShloMosaic

/-- From one on, the inverse hyperbolic cosine is the logarithm that defines it. -/
theorem log_eq_acosh {X : EReal} (hX : 1 ≤ X) : Ideal.log (X + Ideal.sqrt (X * X - 1)) = Ideal.acosh X := by
  induction X with
  | bot => exact absurd (le_bot_iff.1 hX) (EReal.coe_ne_bot 1)
  | top =>
    have h : (⊤ : EReal) * ⊤ - 1 = ⊤ := by rw [EReal.top_mul_top]; rfl
    rw [h]
    show Ideal.log (⊤ + ⊤) = ⊤
    rw [EReal.top_add_top]
    rfl
  | coe r =>
    have hr : 1 ≤ r := by exact_mod_cast hX
    have h : (r : EReal) * r - 1 = ((r ^ 2 - 1 : ℝ) : EReal) := by
      rw [pow_two]; rfl
    have h2 : Ideal.sqrt ((r ^ 2 - 1 : ℝ) : EReal) = ((Real.sqrt (r ^ 2 - 1) : ℝ) : EReal) := by
      show (if r ^ 2 - 1 < 0 then (⊥ : EReal) else _) = _
      rw [if_neg (by nlinarith)]
    rw [h, h2, ← EReal.coe_add]
    show (if r + Real.sqrt (r ^ 2 - 1) ≤ 0 then (⊥ : EReal) else ((Real.log (r + Real.sqrt (r ^ 2 - 1)) : ℝ) : EReal)) =
      (if r < 1 then (⊥ : EReal) else ((Real.arcosh r : ℝ) : EReal))
    rw [if_neg (by have := Real.sqrt_nonneg (r ^ 2 - 1); linarith), if_neg (by linarith)]
    rfl

/-- The expanded squared distance of finite points is the sum of the squared differences. -/
theorem sqK_eq {p q : Fin 64 → EReal} (hp : ∀ y, IsFin (p y)) (hq : ∀ y, IsFin (q y)) :
    sqK p q = ∑ x, (q x - p x) * (q x - p x) := by
  choose p' hp' using hp
  choose q' hq' using hq
  unfold sqK
  rw [word_2]
  simp only [hp', hq', ← EReal.coe_mul, ← EReal.coe_sub, sum_coe, ← EReal.coe_add]
  norm_cast
  rw [Finset.mul_sum, ← Finset.sum_add_distrib, ← Finset.sum_sub_distrib]
  exact Finset.sum_congr rfl fun x _ => by ring

theorem distK_eq (c : EReal) {p q : Fin 64 → EReal} (hp : ∀ y, IsFin (p y)) (hq : ∀ y, IsFin (q y)) :
    distK c p q = distR c p q := by
  unfold distK distR
  rw [sqK_eq hp hq, log_eq_acosh (le_max_right _ _)]
  unfold denom
  rw [mul_comm (1 - c * ∑ x, p x * p x)]

theorem acosh_nonneg {X : EReal} (hX : 1 ≤ X) : 0 ≤ Ideal.acosh X := by
  induction X with
  | bot => exact absurd (le_bot_iff.1 hX) (EReal.coe_ne_bot 1)
  | top => exact le_top
  | coe r =>
    have hr : 1 ≤ r := by exact_mod_cast hX
    show (0 : EReal) ≤ (if r < 1 then (⊥ : EReal) else ((Real.arcosh r : ℝ) : EReal))
    rw [if_neg (by linarith)]
    exact_mod_cast Real.arcosh_nonneg hr

theorem acosh_one : Ideal.acosh 1 = 0 := by
  show (if (1 : ℝ) < 1 then (⊥ : EReal) else ((Real.arcosh 1 : ℝ) : EReal)) = 0
  rw [if_neg (by norm_num), Real.arcosh_zero]
  rfl

theorem sqrt_ne_zero {c : EReal} (hc : c ≠ 0) : Ideal.sqrt c ≠ 0 := by
  induction c with
  | bot => exact fun h => by cases h
  | top => exact fun h => by cases h
  | coe r =>
    have hr : r ≠ 0 := fun h => hc (by rw [h]; rfl)
    show (if r < 0 then (⊥ : EReal) else ((Real.sqrt r : ℝ) : EReal)) ≠ 0
    split
    · exact fun h => by cases h
    · rename_i h
      have : 0 < r := lt_of_le_of_ne (not_lt.1 h) (Ne.symm hr)
      exact_mod_cast (Real.sqrt_pos.2 this).ne'

theorem sqrt_inv_nonneg (c : EReal) : 0 ≤ (Ideal.sqrt c)⁻¹ := by
  induction c with
  | bot => show (0 : EReal) ≤ (⊥ : EReal)⁻¹; rw [EReal.inv_bot]
  | top => show (0 : EReal) ≤ (⊤ : EReal)⁻¹; rw [EReal.inv_top]
  | coe r =>
    show (0 : EReal) ≤ (if r < 0 then (⊥ : EReal) else ((Real.sqrt r : ℝ) : EReal))⁻¹
    split
    · rw [EReal.inv_bot]
    · rw [← EReal.coe_inv]
      exact_mod_cast inv_nonneg.2 (Real.sqrt_nonneg r)

theorem distR_nonneg {c : EReal} (hc : c ≠ 0) (p q : Fin 64 → EReal) : 0 ≤ distR c p q := by
  unfold distR
  unfold Ideal.div
  rw [if_neg (sqrt_ne_zero hc)]
  exact mul_nonneg (acosh_nonneg (le_max_right _ _)) (sqrt_inv_nonneg c)

theorem zero_div_pos {d : EReal} (hd : 0 < d) : Ideal.div 0 d = 0 := by
  unfold Ideal.div
  rw [if_neg hd.ne', zero_mul]

theorem square_add_pos (z : EReal) : 0 < z * z + Ideal.ofBits .f32 841731191#32 := by
  obtain ⟨r, hr, h⟩ := word_eps8
  rw [h]
  exact lt_of_lt_of_le (by exact_mod_cast hr : (0 : EReal) < r) (le_add_of_nonneg_left (sq_nonneg' z))

theorem self_sum {p : Fin 64 → EReal} (hp : ∀ y, IsFin (p y)) : ∑ x, (p x - p x) * (p x - p x) = 0 := by
  choose p' hp' using hp
  refine Finset.sum_eq_zero fun x _ => ?_
  rw [hp', ← EReal.coe_sub, sub_self]
  simp

/-- A finite point is at distance zero from itself. -/
theorem distR_self {c : EReal} (hc : c ≠ 0) {p : Fin 64 → EReal} (hp : ∀ y, IsFin (p y)) : distR c p p = 0 := by
  unfold distR
  rw [self_sum hp, mul_zero, zero_div_pos (square_add_pos _), add_zero, max_self, acosh_one]
  unfold Ideal.div
  rw [if_neg (sqrt_ne_zero hc), zero_mul]

/-- With no curvature every distance is the same junk value. -/
theorem distR_flat (p q : Fin 64 → EReal) : distR 0 p q = ⊥ := by
  unfold distR
  have h : (1 : EReal) - 0 = 1 := sub_zero 1
  rw [mul_zero, zero_mul, zero_mul, zero_mul, h, zero_div_pos (square_add_pos 1), add_zero, max_self, acosh_one]
  have h0 : Ideal.sqrt 0 = 0 := by
    show (if (0 : ℝ) < 0 then (⊥ : EReal) else ((Real.sqrt 0 : ℝ) : EReal)) = 0
    rw [if_neg (lt_irrefl _), Real.sqrt_zero]
    rfl
  rw [h0]
  unfold Ideal.div
  rw [if_pos rfl, if_neg (lt_irrefl _)]

/-- With a curvature that is not a positive real number every distance is the same. -/
theorem distR_const {c : EReal} (hc : ¬ ∃ r : ℝ, 0 < r ∧ c = r) (p q p' q' : Fin 64 → EReal) : distR c p q = distR c p' q' := by
  by_cases h0 : c = 0
  · rw [h0, distR_flat, distR_flat]
  · have h : (Ideal.sqrt c)⁻¹ = 0 := by
      induction c with
      | bot => exact EReal.inv_bot
      | top => exact EReal.inv_top
      | coe r =>
        have hr : r < 0 := by
          rcases lt_trichotomy r 0 with h | h | h
          · exact h
          · exact absurd (by rw [h]; rfl) h0
          · exact absurd ⟨r, h, rfl⟩ hc
        show (if r < 0 then (⊥ : EReal) else ((Real.sqrt r : ℝ) : EReal))⁻¹ = 0
        rw [if_pos hr, EReal.inv_bot]
    unfold distR Ideal.div
    rw [if_neg (sqrt_ne_zero h0), if_neg (sqrt_ne_zero h0), h, mul_zero, mul_zero]

/-- A point with a coordinate that is not finite is at distance zero or infinity from every point. -/
theorem distR_far {c : ℝ} (hc : 0 < c) {p : Fin 64 → EReal} {y : Fin 64} (hp : ¬ IsFin (p y)) (q : Fin 64 → EReal) :
    distR c p q = 0 ∨ distR c p q = ⊤ := by
  have hs : Ideal.sqrt (c : EReal) = ((Real.sqrt c : ℝ) : EReal) := by
    show (if c < 0 then (⊥ : EReal) else ((Real.sqrt c : ℝ) : EReal)) = _
    rw [if_neg hc.not_gt]
  have hS : ∑ x, (q x - p x) * (q x - p x) = ⊤ := sum_sq_top (i := y) fun h => hp h.of_sub.2
  have hP : ∑ x, p x * p x = ⊤ := sum_sq_top hp
  have h2c : (2 : ℝ) * c > 0 := by linarith
  have h1 : (1 : EReal) - ⊤ = ⊥ := EReal.sub_top 1
  have key : ∀ a : EReal, a = 0 ∨ a = ⊤ →
      Ideal.div (Ideal.acosh (max (1 + a) 1)) (Ideal.sqrt (c : EReal)) = 0 ∨
        Ideal.div (Ideal.acosh (max (1 + a) 1)) (Ideal.sqrt (c : EReal)) = ⊤ := by
    rintro a (rfl | rfl)
    · left
      rw [add_zero, max_self, acosh_one, hs, zero_div_pos (by exact_mod_cast Real.sqrt_pos.2 hc)]
    · right
      have h : max ((1 : EReal) + ⊤) 1 = ⊤ := by
        have h1t : (1 : EReal) + ⊤ = ⊤ := EReal.add_top_of_ne_bot (EReal.coe_ne_bot 1)
        rw [h1t]
        exact max_eq_left le_top
      rw [h, hs, Ideal.div_coe (Real.sqrt_pos.2 hc).ne']
      exact EReal.top_mul_coe_of_pos (one_div_pos.2 (Real.sqrt_pos.2 hc))
  unfold distR
  apply key
  obtain ⟨e, he, hw⟩ := word_eps8
  rw [hS, hP, word_2, hw, ← EReal.coe_mul, EReal.coe_mul_top_of_pos h2c, EReal.coe_mul_top_of_pos hc, h1]
  generalize (1 : EReal) - (c : EReal) * ∑ x, q x * q x = z
  have hz : z * ⊥ = ⊤ ∨ z * ⊥ = 0 ∨ z * ⊥ = ⊥ := by
    induction z with
    | bot => exact Or.inl EReal.bot_mul_bot
    | top => exact Or.inr (Or.inr EReal.top_mul_bot)
    | coe r =>
      rcases lt_trichotomy r 0 with h | h | h
      · exact Or.inl (EReal.coe_mul_bot_of_neg h)
      · exact Or.inr (Or.inl (by rw [h]; exact zero_mul _))
      · exact Or.inr (Or.inr (EReal.coe_mul_bot_of_pos h))
  rcases hz with h | h | h
  · left
    rw [h, EReal.top_add_coe]
    unfold Ideal.div
    rw [if_neg (by simp), EReal.inv_top, mul_zero]
  · right
    rw [h, zero_add, Ideal.div_coe he.ne']
    exact EReal.top_mul_coe_of_pos (one_div_pos.2 he)
  · left
    rw [h, EReal.bot_add]
    unfold Ideal.div
    rw [if_neg (by simp), EReal.inv_bot, mul_zero]

end Cert.Spec

end
-- ==== Proof.Selection.lean ====
module

public import proofs.«01_k».proof.Proof.Model
public import Idealize.ShloMosaic.Lib.SortFacts

@[expose] public section

noncomputable section

/-! The selection of the nearest keys: repeated removal of the smallest distance removes the keys in the order in which
the sort lists them, as long as the places after the first have different distances. -/

namespace Cert.Spec

open Idealize.ShloMosaic

/-- Whether key `a` sorts strictly before key `b`: it is nearer. -/
def before (d : Fin 2048 → EReal) (a b : Fin 2048) : Bool :=
  FloatOps.cmpfTotal (F := Ideal) (φ := .f32) .gt (-d a) (-d b) == 1#1

theorem before_iff (d : Fin 2048 → EReal) (a b : Fin 2048) : before d a b = true ↔ d a < d b := by
  have h : before d a b = (BitVec.ofBool (decide (-d b < -d a)) == 1#1) := rfl
  rw [h]
  by_cases hlt : d a < d b
  · simp [hlt, EReal.neg_lt_neg_iff]
  · simp [hlt, EReal.neg_lt_neg_iff]

theorem before_false (d : Fin 2048 → EReal) (a b : Fin 2048) : before d a b = false ↔ d b ≤ d a := by
  rw [← Bool.not_eq_true, before_iff, not_lt]

/-- The sort lists the keys by increasing distance. -/
theorem nth_mono (d : Fin 2048 → EReal) {i j : Fin 2048} (h : i < j) : d (nth d i) ≤ d (nth d j) := by
  have := sortedFrom_noInversion (before d) (before d)
    (fun a b hab => by
      rw [before_iff] at hab
      rw [before_false]
      exact hab.le)
    (fun a b hab => hab)
    (fun a b c hab hbc => by
      rw [before_false] at *
      exact hbc.trans hab) i j h
  rw [before_false] at this
  exact this

theorem nth_injective (d : Fin 2048 → EReal) : Function.Injective (nth d) := sortedFrom_injective _

theorem nth_surjective (d : Fin 2048 → EReal) : Function.Surjective (nth d) := sortedFrom_surjective _

/-- The distances at the places 1 to 16 are different. Place 0 may tie with place 1. -/
def Apart (d : Fin 2048 → EReal) : Prop :=
  ∀ (r : ℕ) (_ : 1 ≤ r) (h : r < 16), d (nth d ⟨r, by omega⟩) < d (nth d ⟨r + 1, by omega⟩)

variable {d : Fin 2048 → EReal}

theorem nth_lt (hd : Apart d) {r : ℕ} (h1 : 1 ≤ r) (hr : r < 16) {s : Fin 2048} (h : r < s.val) :
    d (nth d ⟨r, by omega⟩) < d (nth d s) := by
  refine (hd r h1 hr).trans_le ?_
  rcases Nat.lt_or_ge (r + 1) s.val with h1 | h1
  · exact nth_mono d (Fin.lt_def.2 h1)
  · have : s = ⟨r + 1, by omega⟩ := Fin.ext (by show s.val = r + 1; omega)
    rw [this]

/-- The nearest key is at place 0 or, in a tie, at place 1. -/
theorem place_le_one (hd : Apart d) {s : Fin 2048} (hs : ∀ j, d (nth d s) ≤ d j) : s.val ≤ 1 := by
  by_contra h
  exact absurd (hs _) (not_le.2 (nth_lt hd (le_refl 1) (by omega) (by omega)))

/-- The working row once the keys at places `0` to `t` are taken away. -/
def taken (d : Fin 2048 → EReal) (t : ℕ) (j : Fin 2048) : EReal :=
  if (∃ r : Fin 2048, r.val ≤ t ∧ nth d r = j) then ⊤ else d j

theorem taken_nth (t : ℕ) (s : Fin 2048) : taken d t (nth d s) = if s.val ≤ t then ⊤ else d (nth d s) := by
  unfold taken
  by_cases h : s.val ≤ t
  · rw [if_pos ⟨s, h, rfl⟩, if_pos h]
  · rw [if_neg, if_neg h]
    rintro ⟨r, hr, he⟩
    rw [nth_injective d he] at hr
    exact h hr

theorem inf_taken (hd : Apart d) {t : ℕ} (ht : t < 15) :
    Finset.univ.inf (taken d t) = d (nth d ⟨t + 1, by omega⟩) := by
  apply le_antisymm
  · refine (Finset.inf_le (Finset.mem_univ (nth d ⟨t + 1, by omega⟩))).trans ?_
    rw [taken_nth, if_neg (by simp)]
  · refine Finset.le_inf fun j _ => ?_
    obtain ⟨s, rfl⟩ := nth_surjective d j
    rw [taken_nth]
    split
    · exact le_top
    · rename_i h
      rcases Nat.lt_or_ge (t + 1) s.val with h1 | h1
      · exact (nth_lt hd (by omega) (by omega) h1).le
      · have : s = ⟨t + 1, by omega⟩ := Fin.ext (by show s.val = t + 1; omega)
        rw [this]

theorem rnd_taken (hd : Apart d) {t : ℕ} (ht : t < 15) : rnd (taken d t) = taken d (t + 1) := by
  funext j
  obtain ⟨s, rfl⟩ := nth_surjective d j
  unfold rnd
  rw [inf_taken hd ht, taken_nth, taken_nth]
  by_cases h : s.val ≤ t
  · rw [if_pos h, if_pos (show s.val ≤ t + 1 by omega)]
    split <;> rfl
  · rw [if_neg h]
    by_cases h1 : s.val ≤ t + 1
    · have : s = ⟨t + 1, by omega⟩ := Fin.ext (by show s.val = t + 1; omega)
      rw [if_pos h1, if_pos (by rw [this])]
    · rw [if_neg h1, if_neg (nth_lt hd (by omega) (by omega) (by omega)).ne']

/-- With the point itself taken away, one round leaves the first two places taken away. -/
theorem rnd_work0 (hd : Apart d) {i : Fin 2048} (hi : ∀ j, d i ≤ d j) : rnd (work0 d i) = taken d 1 := by
  obtain ⟨s, rfl⟩ := nth_surjective d i
  rcases Nat.lt_or_ge s.val 1 with h | h
  · have h0 : work0 d (nth d s) = taken d 0 := by
      funext j
      obtain ⟨u, rfl⟩ := nth_surjective d j
      rw [taken_nth]
      unfold work0
      by_cases hu : u = s
      · rw [if_pos (by rw [hu]), if_pos (by rw [hu]; omega)]
      · have : u.val ≠ s.val := fun h => hu (Fin.ext h)
        rw [if_neg (fun h => hu (nth_injective d h)), if_neg (by omega)]
    rw [h0]
    exact rnd_taken hd (by omega)
  · have h1 := place_le_one hd hi
    have hs : s.val = 1 := by omega
    have hne : (⟨0, by omega⟩ : Fin 2048) ≠ s := fun h => by rw [← h] at hs; exact absurd hs (by simp)
    have he : d (nth d ⟨0, by omega⟩) = d (nth d s) :=
      le_antisymm (nth_mono d (Fin.lt_def.2 (by show 0 < s.val; omega))) (hi _)
    have hinf : Finset.univ.inf (work0 d (nth d s)) = d (nth d s) := by
      apply le_antisymm
      · refine (Finset.inf_le (Finset.mem_univ (nth d ⟨0, by omega⟩))).trans ?_
        unfold work0
        rw [if_neg (fun h => hne (nth_injective d h)), he]
      · refine Finset.le_inf fun j _ => ?_
        unfold work0
        split
        · exact le_top
        · exact hi j
    funext j
    obtain ⟨u, rfl⟩ := nth_surjective d j
    rw [taken_nth]
    unfold rnd
    rw [hinf]
    unfold work0
    by_cases hu : u = s
    · rw [hu, if_pos rfl, if_pos (show s.val ≤ 1 by omega)]
      split <;> rfl
    · have hv : u.val ≠ s.val := fun h => hu (Fin.ext h)
      rw [if_neg (fun h => hu (nth_injective d h))]
      by_cases h0 : u.val ≤ 1
      · have : u = ⟨0, by omega⟩ := Fin.ext (by show u.val = 0; omega)
        rw [if_pos h0, if_pos (by rw [this, he])]
      · have h2 : s = ⟨1, by omega⟩ := Fin.ext hs
        have := nth_lt hd (le_refl 1) (by omega) (show 1 < u.val by omega)
        rw [← h2] at this
        rw [if_neg h0, if_neg this.ne']

theorem rounds (hd : Apart d) {i : Fin 2048} (hi : ∀ j, d i ≤ d j) {t : ℕ} (ht : t < 15) :
    rnd^[t + 1] (work0 d i) = taken d (t + 1) := by
  induction t with
  | zero => rw [Function.iterate_one, rnd_work0 hd hi]
  | succ t ih => rw [Function.iterate_succ_apply', ih (by omega), rnd_taken hd (by omega)]

/-- A key is selected when it is among the sixteen nearest, or infinitely far. -/
theorem selected_iff (hd : Apart d) {i : Fin 2048} (hi : ∀ j, d i ≤ d j) (s : Fin 2048) :
    rnd^[15] (work0 d i) (nth d s) = ⊤ ↔ s.val < 16 ∨ d (nth d s) = ⊤ := by
  rw [rounds hd hi (show 14 < 15 by omega), taken_nth]
  by_cases h : s.val ≤ 15
  · rw [if_pos h]
    exact ⟨fun _ => Or.inl (by omega), fun _ => rfl⟩
  · rw [if_neg h]
    exact ⟨Or.inr, fun h' => h'.resolve_left (by omega)⟩

end Cert.Spec

end
-- ==== Proof.Softmax.lean ====
module

public import proofs.«01_k».proof.Proof.Finite
public import proofs.«01_k».proof.Proof.Model

@[expose] public section

noncomputable section

/-! The softmax of sixteen real logits is a quotient of exponentials, whether or not the largest is taken away first. -/

namespace Cert.Spec

open Idealize.ShloMosaic

theorem exp_coe (r : ℝ) : Ideal.exp (r : EReal) = ((Real.exp r : ℝ) : EReal) := rfl

theorem top_fin (a : Fin 16 → ℝ) : IsFin (top fun r => (a r : EReal)) := by
  unfold top
  rw [word_bot, max_eq_right bot_le]
  have h : Finset.fold max (⊥ : EReal) (fun r : Fin 16 => (a r : EReal)) Finset.univ = ((Finset.univ.sup' ⟨0, Finset.mem_univ _⟩ a : ℝ) : EReal) := by
    apply le_antisymm
    · rw [Finset.fold_max_le]
      exact ⟨bot_le, fun r hr => by exact_mod_cast Finset.le_sup' a hr⟩
    · obtain ⟨r, hr, he⟩ := Finset.exists_mem_eq_sup' (s := Finset.univ) ⟨0, Finset.mem_univ _⟩ a
      rw [he, Finset.le_fold_max]
      exact Or.inr ⟨r, hr, le_refl _⟩
  exact ⟨_, h⟩

theorem exp_sum_pos (a : Fin 16 → ℝ) : 0 < ∑ r, Real.exp (a r) :=
  Finset.sum_pos (fun r _ => Real.exp_pos _) ⟨0, Finset.mem_univ _⟩

theorem soft_eq (a : Fin 16 → ℝ) (r : Fin 16) :
    soft (fun s => (a s : EReal)) r = ((Real.exp (a r) * (1 / ∑ s, Real.exp (a s)) : ℝ) : EReal) := by
  obtain ⟨m, hm⟩ := top_fin a
  unfold soft
  rw [hm]
  simp only [← EReal.coe_sub, exp_coe, sum_coe]
  rw [Ideal.div_coe (exp_sum_pos fun s => a s - m).ne', ← EReal.coe_mul]
  congr 1
  have h : ∑ s, Real.exp (a s - m) = (∑ s, Real.exp (a s)) * (Real.exp m)⁻¹ := by
    rw [Finset.sum_mul]
    exact Finset.sum_congr rfl fun s _ => by rw [Real.exp_sub, div_eq_mul_inv]
  have hs := (exp_sum_pos a).ne'
  have he := (Real.exp_pos m).ne'
  rw [h, Real.exp_sub]
  field_simp

/-- The weighted sum by softmax weights is the quotient of the two sums. -/
theorem soft_sum (a : Fin 16 → ℝ) (v : Fin 16 → EReal) :
    ∑ r, soft (fun s => (a s : EReal)) r * v r =
      Ideal.div (∑ r, Ideal.exp (a r) * v r) (∑ r, Ideal.exp (a r) * 1) := by
  simp only [exp_coe, mul_one, sum_coe, soft_eq]
  rw [Ideal.div_coe (exp_sum_pos a).ne', sum_mul_coe _ _ (one_div_pos.2 (exp_sum_pos a)).le]
  refine Finset.sum_congr rfl fun r _ => ?_
  rw [EReal.coe_mul, mul_right_comm]

end Cert.Spec

end
-- ==== Proof.Compare.lean ====
module

public import proofs.«01_k».proof.Proof.Distance
public import proofs.«01_k».proof.Proof.Selection
public import proofs.«01_k».proof.Proof.Softmax

@[expose] public section

noncomputable section

/-! The kernel's block and the reference's block are one function of the arguments, when the weights and shifts that
the scores are made with are finite, the temperature is not infinite, and each query's distances at the places 1 to 16
are different. -/

namespace Cert.Spec

open Idealize.ShloMosaic

/-- The condition on the arguments. -/
structure Args.Good (A : Args) : Prop where
  wq : ∀ j k, IsFin (A.wq j k)
  bq : ∀ j, IsFin (A.bq j)
  wk : ∀ j k, IsFin (A.wk j k)
  bk : ∀ j, IsFin (A.bk j)
  g1 : ∀ j, IsFin (A.g1 j)
  be1 : ∀ j, IsFin (A.be1 j)
  lt : A.lt ≠ ⊤
  apart : ∀ b n, Apart (A.dR b n)

namespace Args

variable {A : Args}

theorem c_pos (hA : A.Good) : ∃ r : ℝ, 0 < r ∧ A.c = r := by
  by_contra hc
  have h := hA.apart 0 0 1 (by omega) (by omega)
  unfold dR at h
  rw [distR_const hc] at h
  exact lt_irrefl _ h

theorem c_ne_zero (hA : A.Good) : A.c ≠ 0 := by
  obtain ⟨r, hr, h⟩ := c_pos hA
  rw [h]
  exact_mod_cast hr.ne'

/-- The positions are finite: a point with a coordinate that is not finite has at most two different distances. -/
theorem pos_fin (hA : A.Good) (b : Fin 2) (n : Fin 2048) (y : Fin 64) : IsFin (A.pos b n y) := by
  by_contra hp
  obtain ⟨r, hr, hc⟩ := c_pos hA
  have h : ∀ j, A.dR b n j = 0 ∨ A.dR b n j = ⊤ := fun j => by
    unfold dR
    rw [hc]
    exact distR_far hr hp _
  have h1 := hA.apart b n 1 (by omega) (by omega)
  have h2 := hA.apart b n 2 (by omega) (by omega)
  rcases h (nth (A.dR b n) ⟨2, by omega⟩) with h3 | h3
  · rcases h (nth (A.dR b n) ⟨1, by omega⟩) with h4 | h4
    · rw [h4, h3] at h1
      exact lt_irrefl _ h1
    · rw [h4] at h1
      exact not_top_lt h1
  · rw [h3] at h2
    exact not_top_lt h2

theorem dK_eq (hA : A.Good) (b : Fin 2) (n : Fin 2048) : A.dK b n = A.dR b n := by
  funext j
  exact distK_eq A.c (pos_fin hA b n) (pos_fin hA b j)

theorem dR_self_le (hA : A.Good) (b : Fin 2) (n j : Fin 2048) : A.dR b n n ≤ A.dR b n j := by
  have hc := c_ne_zero hA
  have h : A.dR b n n = 0 := distR_self hc (pos_fin hA b n)
  rw [h]
  exact distR_nonneg hc _ _

theorem dR_near_fin (hA : A.Good) (b : Fin 2) (n : Fin 2048) (r : Fin 16) : IsFin (A.dR b n (A.near b n r)) := by
  have h : A.dR b n (A.near b n r) ≤ A.dR b n (nth (A.dR b n) ⟨15, by omega⟩) := by
    rcases Nat.lt_or_ge r.val 15 with h | h
    · exact nth_mono _ (Fin.lt_def.2 h)
    · have : r = ⟨15, by omega⟩ := Fin.ext (by show r.val = 15; omega)
      rw [this]
      exact le_refl _
  have h0 : 0 ≤ A.dR b n (A.near b n r) := distR_nonneg (c_ne_zero hA) _ _
  have h1 : A.dR b n (A.near b n r) ≠ ⊤ := ((h.trans_lt (hA.apart b n 15 (by omega) (by omega))).trans_le le_top).ne
  have h2 : A.dR b n (A.near b n r) ≠ ⊥ := fun h => by rw [h] at h0; exact absurd (le_bot_iff.1 h0) (EReal.coe_ne_bot 0)
  exact ⟨_, (EReal.coe_toReal h1 h2).symm⟩

theorem kK_eq (A : Args) (b : Fin 2) (n : Fin 2048) (e : Fin 1024) : A.kK b n e = A.kR b n e := by
  unfold kK kR
  rw [lnK_eq]

theorem vK_eq (A : Args) (b : Fin 2) (n : Fin 2048) (e : Fin 1024) : A.vK b n e = A.vR b n e := by
  unfold vK vR
  rw [lnK_eq]

theorem sqrt_64 : Ideal.sqrt (Ideal.ofBits .f32 1115684864#32) = ((Real.sqrt 64 : ℝ) : EReal) := by
  rw [word_64]
  show (if (64 : ℝ) < 0 then (⊥ : EReal) else ((Real.sqrt 64 : ℝ) : EReal)) = _
  rw [if_neg (by norm_num)]

theorem qR_fin (hA : A.Good) (b : Fin 2) (n : Fin 2048) (e : Fin 1024) : IsFin (A.qR b n e) :=
  lin_fin (lnR_fin (A.x b n) hA.g1 hA.be1) (hA.wq e) (hA.bq e)

theorem kR_fin (hA : A.Good) (b : Fin 2) (n : Fin 2048) (e : Fin 1024) : IsFin (A.kR b n e) :=
  lin_fin (lnR_fin (A.x b n) hA.g1 hA.be1) (hA.wk e) (hA.bk e)

/-- The score of a key: scaling the query first or the inner product afterwards gives one real number. -/
theorem score (hA : A.Good) (b : Fin 2) (n j : Fin 2048) (e : Fin 1024) :
    ∃ s : ℝ, ∑ y, A.qK b n (col e y) * A.kK b j (col e y) = (s : EReal) ∧
      Ideal.div (∑ y, A.qR b n (col e y) * A.kR b j (col e y)) (Ideal.sqrt (Ideal.ofBits .f32 1115684864#32)) = (s : EReal) := by
  choose q hq using fun y => qR_fin hA b n (col e y)
  choose k hk using fun y => kR_fin hA b j (col e y)
  have h64 : (0 : ℝ) < Real.sqrt 64 := Real.sqrt_pos.2 (by norm_num)
  refine ⟨(∑ y, q y * k y) * (1 / Real.sqrt 64), ?_, ?_⟩
  · have hqK : ∀ y, A.qK b n (col e y) = ((q y * (1 / Real.sqrt 64) : ℝ) : EReal) := by
      intro y
      have h : A.qK b n (col e y) = A.qR b n (col e y) * Ideal.div 1 (Ideal.sqrt (Ideal.ofBits .f32 1115684864#32)) := by
        unfold qK qR
        rw [lnK_eq]
      rw [h, hq, sqrt_64, Ideal.div_coe h64.ne', one_mul, EReal.coe_mul]
    simp only [hqK, kK_eq, hk, ← EReal.coe_mul, sum_coe]
    congr 1
    rw [Finset.sum_mul]
    exact Finset.sum_congr rfl fun y _ => by ring
  · rw [sqrt_64, Ideal.div_coe h64.ne']
    simp only [hq, hk, ← EReal.coe_mul, sum_coe]

/-- The temperature. -/
theorem tau (hA : A.Good) : ∃ τ : ℝ, 0 < τ ∧ Ideal.exp A.lt + Ideal.ofBits .f32 841731191#32 = (τ : EReal) := by
  obtain ⟨e, he, hw⟩ := word_eps8
  have hl := hA.lt
  rw [hw]
  generalize A.lt = l at hl ⊢
  induction l with
  | bot => exact ⟨e, he, zero_add _⟩
  | top => exact absurd rfl hl
  | coe l => exact ⟨Real.exp l + e, add_pos (Real.exp_pos l) he, by rw [exp_coe, EReal.coe_add]⟩

theorem invTau_eq {l : EReal} {τ : ℝ} (hτ : 0 < τ) (h : Ideal.exp l + Ideal.ofBits .f32 841731191#32 = (τ : EReal)) :
    (0 : EReal) - invTau l = ((-(1 / τ) : ℝ) : EReal) := by
  unfold invTau
  rw [h, Ideal.div_coe hτ.ne', one_mul, zero_sub, EReal.coe_neg]

/-- At one of the sixteen nearest keys the kernel's exponent is the reference's logit, a real number. -/
theorem exponent (hA : A.Good) (b : Fin 2) (n : Fin 2048) (e : Fin 1024) (r : Fin 16) :
    ∃ a : ℝ, ∑ y, A.qK b n (col e y) * A.kK b (A.near b n r) (col e y) + maskK A.lt (A.dR b n) n (A.near b n r) = (a : EReal) ∧
      A.logit b n e r = (a : EReal) := by
  obtain ⟨s, hs, hs'⟩ := score hA b n (A.near b n r) e
  obtain ⟨τ, hτ, ht⟩ := tau hA
  obtain ⟨D, hD⟩ := dR_near_fin hA b n r
  refine ⟨s + D * (-(1 / τ)), ?_, ?_⟩
  · have hsel : rnd^[15] (work0 (A.dR b n) n) (A.near b n r) = ⊤ := (selected_iff (hA.apart b n) (dR_self_le hA b n) ⟨r.val, by omega⟩).2 (Or.inl r.isLt)
    have hm : maskK A.lt (A.dR b n) n (A.near b n r) = ((D * (-(1 / τ)) : ℝ) : EReal) := by
      unfold maskK
      rw [if_pos hsel, hD, invTau_eq hτ ht, EReal.coe_mul]
    rw [hs, hm, EReal.coe_add]
  · unfold logit
    rw [hs', hD, ht, Ideal.div_coe hτ.ne', neg_neg, EReal.coe_add, EReal.coe_mul, EReal.coe_neg, mul_neg, neg_mul]

/-- Every other key's weight is zero. -/
theorem other (hA : A.Good) (b : Fin 2) (n j : Fin 2048) (e : Fin 1024) (hj : ∀ r, A.near b n r ≠ j) :
    Ideal.exp (∑ y, A.qK b n (col e y) * A.kK b j (col e y) + maskK A.lt (A.dR b n) n j) = 0 := by
  obtain ⟨s, hs, -⟩ := score hA b n j e
  obtain ⟨τ, hτ, ht⟩ := tau hA
  have hm : maskK A.lt (A.dR b n) n j = ⊥ := by
    unfold maskK
    split
    · rename_i hsel
      obtain ⟨s, rfl⟩ := nth_surjective (A.dR b n) j
      have h16 : ¬ s.val < 16 := fun h => hj ⟨s.val, h⟩ rfl
      rw [((selected_iff (hA.apart b n) (dR_self_le hA b n) s).1 hsel).resolve_left h16, invTau_eq hτ ht]
      exact EReal.top_mul_coe_of_neg (by have := one_div_pos.2 hτ; linarith)
    · rfl
  rw [hs, hm, EReal.add_bot]
  rfl

theorem near_injective (A : Args) (b : Fin 2) (n : Fin 2048) : Function.Injective (A.near b n) := by
  intro r s h
  have := nth_injective _ h
  exact Fin.ext (Fin.mk.inj this)

/-- A sum over all keys, weighted, is a sum over the sixteen nearest. -/
theorem sum_keys (hA : A.Good) (b : Fin 2) (n : Fin 2048) (e : Fin 1024) (v : Fin 2048 → EReal) :
    ∑ j, Ideal.exp (∑ y, A.qK b n (col e y) * A.kK b j (col e y) + maskK A.lt (A.dR b n) n j) * v j =
      ∑ r, Ideal.exp (A.logit b n e r) * v (A.near b n r) := by
  symm
  refine Finset.sum_of_injOn (A.near b n) (near_injective A b n).injOn (fun _ _ => Finset.mem_coe.2 (Finset.mem_univ _)) ?_ ?_
  · intro j _ hj
    rw [other hA b n j e fun r hr => hj ⟨r, Finset.mem_coe.2 (Finset.mem_univ _), hr⟩, zero_mul]
  · intro r _
    obtain ⟨a, h1, h2⟩ := exponent hA b n e r
    rw [h1, h2]

theorem attn_eq (hA : A.Good) (b : Fin 2) (n : Fin 2048) : A.attnK b n = A.attnR b n := by
  funext e
  unfold attnK attnR headK
  rw [dK_eq hA, sum_keys hA, sum_keys hA]
  choose a _ ha using exponent hA b n e
  have hl : A.logit b n e = fun r => (a r : EReal) := funext ha
  rw [hl, soft_sum]
  simp only [vK_eq]

theorem x1_eq (hA : A.Good) (b : Fin 2) (n : Fin 2048) : A.x1K b n = A.x1R b n := by
  funext t
  unfold x1K x1R
  rw [attn_eq hA]

/-- The two blocks agree. -/
theorem out_eq (hA : A.Good) (b : Fin 2) (n : Fin 2048) (t : Fin 1024) : A.outK b n t = A.outR b n t := by
  unfold outK outR
  rw [x1_eq hA, lnK_eq]
  simp only [geluK_eq]
  unfold res lin
  rw [add_assoc]

end Args

end Cert.Spec

end
-- ==== Proof.Precondition.lean ====
module

public import proofs.«01_k».proof.Defs
public import proofs.«01_k».proof.Proof.RefNear
public import proofs.«01_k».proof.Proof.Compare

@[expose] public section

noncomputable section

/-! What the precondition says: six arguments are finite, one is below infinity, and each query's distances at the
places 1 to 16 are different. -/

namespace Cert.Proof

open Cert.Spec
open Idealize.ShloMosaic Idealize.SL.Sem

/-- The side conditions that the precondition's operations state. -/
theorem preFacts : Cert.Pre_near_apart.Facts where
  shapeCasts_S1_S_ := by decide
  bcast_S2x2048x64_S2x1x2048x64_0_2_3 := by decide
  bcast_S2x2048x64_S2x2048x1x64_0_1_3 := by decide
  bcast_S2x1x2048x64_S2x2048x2048x64_0_1_2_3 := by decide
  bcast_S2x2048x1x64_S2x2048x2048x64_0_1_2_3 := by decide
  reducesTo_S2x2048x2048x64_S2x2048x2048_d3 := by decide
  h_S_ := by decide
  reducesTo_S2x1x2048x64_S2x1x2048_d3 := by decide
  reducesTo_S2x2048x1x64_S2x2048x1_d3 := by decide
  bcast_S_S1 := by decide
  bcast_S1_S1x1x1_2 := by decide
  bcast_S1x1x1_S2x2048x2048_0_1_2 := by decide
  bcast_S1x1x1_S2x1x2048_0_1_2 := by decide
  bcast_S_S2x1x2048 := by decide
  bcast_S1x1x1_S2x2048x1_0_1_2 := by decide
  bcast_S_S2x2048x1 := by decide
  bcast_S2x1x2048_S2x2048x2048_0_1_2 := by decide
  bcast_S2x2048x1_S2x2048x2048_0_1_2 := by decide
  bcast_S_S2x2048x2048 := by decide
  sliceFits_S2x2048x2048_S2x2048x17 := by decide
  slices_S2x2048x17_S2x2048x15_0_0_1 := by decide
  slices_S2x2048x17_S2x2048x15_0_0_2 := by decide
  bcast_S_S1024x1024 := by decide
  bcast_S_S1024 := by decide

/-- The places from `o` to `o + 14` of each query's sorted negated distances. -/
def places (arg1 : FVec Ideal Cert.Pre_near_apart.S2x2048x64 .f32) (arg2 : FVec Ideal Cert.Pre_near_apart.S1 .f32) [Cert.Pre_near_apart.Facts] (o : Fin 3 → ℕ)
    (h : Cert.Pre_near_apart.S2x2048x17.Slices o Cert.Pre_near_apart.S2x2048x15) : FVec Ideal Cert.Pre_near_apart.S2x2048x15 .f32 :=
  extractStridedSlice Cert.Pre_near_apart.S2x2048x15 o (Host.topK Cert.Pre_near_apart.S2x2048x17 2 (FloatOps.cmpfTotal .gt) (Cert.ReferenceIdeal.Read.val_main_v78 (F := Ideal) arg1 arg2) Cert.Pre_near_apart.Facts.sliceFits_S2x2048x2048_S2x2048x17).1 h

section

open Cert.Pre_near_apart

theorem pre_apart [Cert.Pre_near_apart.Facts] (arg0 : FVec Ideal S2x2048x1024 .f32) (arg1 : FVec Ideal S2x2048x64 .f32) (arg2 : FVec Ideal S1 .f32) (arg3 : FVec Ideal S1024x1024 .f32) (arg4 : FVec Ideal S1024 .f32) (arg5 : FVec Ideal S1024x1024 .f32) (arg6 : FVec Ideal S1024 .f32) (arg7 : FVec Ideal S1024x1024 .f32) (arg8 : FVec Ideal S1024 .f32) (arg9 : FVec Ideal S1024x1024 .f32) (arg10 : FVec Ideal S1024 .f32) (arg11 : FVec Ideal S4096x1024 .f32) (arg12 : FVec Ideal S4096 .f32) (arg13 : FVec Ideal S1024x4096 .f32) (arg14 : FVec Ideal S1024 .f32) (arg15 : FVec Ideal S1024 .f32) (arg16 : FVec Ideal S1024 .f32) (arg17 : FVec Ideal S1024 .f32) (arg18 : FVec Ideal S1024 .f32) (arg19 : FVec Ideal S_ .f32) :
    (fn (F := Ideal) arg0 arg1 arg2 arg3 arg4 arg5 arg6 arg7 arg8 arg9 arg10 arg11 arg12 arg13 arg14 arg15 arg16 arg17 arg18 arg19).2.2.2.2.2.2.2 =
      cmpf .ogt (places arg1 arg2 ![0, 0, 1] Facts.slices_S2x2048x17_S2x2048x15_0_0_1) (places arg1 arg2 ![0, 0, 2] Facts.slices_S2x2048x17_S2x2048x15_0_0_2) := rfl

theorem pre_wq [Cert.Pre_near_apart.Facts] (arg0 : FVec Ideal S2x2048x1024 .f32) (arg1 : FVec Ideal S2x2048x64 .f32) (arg2 : FVec Ideal S1 .f32) (arg3 : FVec Ideal S1024x1024 .f32) (arg4 : FVec Ideal S1024 .f32) (arg5 : FVec Ideal S1024x1024 .f32) (arg6 : FVec Ideal S1024 .f32) (arg7 : FVec Ideal S1024x1024 .f32) (arg8 : FVec Ideal S1024 .f32) (arg9 : FVec Ideal S1024x1024 .f32) (arg10 : FVec Ideal S1024 .f32) (arg11 : FVec Ideal S4096x1024 .f32) (arg12 : FVec Ideal S4096 .f32) (arg13 : FVec Ideal S1024x4096 .f32) (arg14 : FVec Ideal S1024 .f32) (arg15 : FVec Ideal S1024 .f32) (arg16 : FVec Ideal S1024 .f32) (arg17 : FVec Ideal S1024 .f32) (arg18 : FVec Ideal S1024 .f32) (arg19 : FVec Ideal S_ .f32) :
    (fn (F := Ideal) arg0 arg1 arg2 arg3 arg4 arg5 arg6 arg7 arg8 arg9 arg10 arg11 arg12 arg13 arg14 arg15 arg16 arg17 arg18 arg19).1 =
      cmpf .olt (Host.absf arg3) (broadcastInDim S1024x1024 ![] Facts.bcast_S_S1024x1024 (constant S_ .f32 0x7F800000#32)) := rfl

theorem pre_bq [Cert.Pre_near_apart.Facts] (arg0 : FVec Ideal S2x2048x1024 .f32) (arg1 : FVec Ideal S2x2048x64 .f32) (arg2 : FVec Ideal S1 .f32) (arg3 : FVec Ideal S1024x1024 .f32) (arg4 : FVec Ideal S1024 .f32) (arg5 : FVec Ideal S1024x1024 .f32) (arg6 : FVec Ideal S1024 .f32) (arg7 : FVec Ideal S1024x1024 .f32) (arg8 : FVec Ideal S1024 .f32) (arg9 : FVec Ideal S1024x1024 .f32) (arg10 : FVec Ideal S1024 .f32) (arg11 : FVec Ideal S4096x1024 .f32) (arg12 : FVec Ideal S4096 .f32) (arg13 : FVec Ideal S1024x4096 .f32) (arg14 : FVec Ideal S1024 .f32) (arg15 : FVec Ideal S1024 .f32) (arg16 : FVec Ideal S1024 .f32) (arg17 : FVec Ideal S1024 .f32) (arg18 : FVec Ideal S1024 .f32) (arg19 : FVec Ideal S_ .f32) :
    (fn (F := Ideal) arg0 arg1 arg2 arg3 arg4 arg5 arg6 arg7 arg8 arg9 arg10 arg11 arg12 arg13 arg14 arg15 arg16 arg17 arg18 arg19).2.1 =
      cmpf .olt (Host.absf arg4) (broadcastInDim S1024 ![] Facts.bcast_S_S1024 (constant S_ .f32 0x7F800000#32)) := rfl

theorem pre_wk [Cert.Pre_near_apart.Facts] (arg0 : FVec Ideal S2x2048x1024 .f32) (arg1 : FVec Ideal S2x2048x64 .f32) (arg2 : FVec Ideal S1 .f32) (arg3 : FVec Ideal S1024x1024 .f32) (arg4 : FVec Ideal S1024 .f32) (arg5 : FVec Ideal S1024x1024 .f32) (arg6 : FVec Ideal S1024 .f32) (arg7 : FVec Ideal S1024x1024 .f32) (arg8 : FVec Ideal S1024 .f32) (arg9 : FVec Ideal S1024x1024 .f32) (arg10 : FVec Ideal S1024 .f32) (arg11 : FVec Ideal S4096x1024 .f32) (arg12 : FVec Ideal S4096 .f32) (arg13 : FVec Ideal S1024x4096 .f32) (arg14 : FVec Ideal S1024 .f32) (arg15 : FVec Ideal S1024 .f32) (arg16 : FVec Ideal S1024 .f32) (arg17 : FVec Ideal S1024 .f32) (arg18 : FVec Ideal S1024 .f32) (arg19 : FVec Ideal S_ .f32) :
    (fn (F := Ideal) arg0 arg1 arg2 arg3 arg4 arg5 arg6 arg7 arg8 arg9 arg10 arg11 arg12 arg13 arg14 arg15 arg16 arg17 arg18 arg19).2.2.1 =
      cmpf .olt (Host.absf arg5) (broadcastInDim S1024x1024 ![] Facts.bcast_S_S1024x1024 (constant S_ .f32 0x7F800000#32)) := rfl

theorem pre_bk [Cert.Pre_near_apart.Facts] (arg0 : FVec Ideal S2x2048x1024 .f32) (arg1 : FVec Ideal S2x2048x64 .f32) (arg2 : FVec Ideal S1 .f32) (arg3 : FVec Ideal S1024x1024 .f32) (arg4 : FVec Ideal S1024 .f32) (arg5 : FVec Ideal S1024x1024 .f32) (arg6 : FVec Ideal S1024 .f32) (arg7 : FVec Ideal S1024x1024 .f32) (arg8 : FVec Ideal S1024 .f32) (arg9 : FVec Ideal S1024x1024 .f32) (arg10 : FVec Ideal S1024 .f32) (arg11 : FVec Ideal S4096x1024 .f32) (arg12 : FVec Ideal S4096 .f32) (arg13 : FVec Ideal S1024x4096 .f32) (arg14 : FVec Ideal S1024 .f32) (arg15 : FVec Ideal S1024 .f32) (arg16 : FVec Ideal S1024 .f32) (arg17 : FVec Ideal S1024 .f32) (arg18 : FVec Ideal S1024 .f32) (arg19 : FVec Ideal S_ .f32) :
    (fn (F := Ideal) arg0 arg1 arg2 arg3 arg4 arg5 arg6 arg7 arg8 arg9 arg10 arg11 arg12 arg13 arg14 arg15 arg16 arg17 arg18 arg19).2.2.2.1 =
      cmpf .olt (Host.absf arg6) (broadcastInDim S1024 ![] Facts.bcast_S_S1024 (constant S_ .f32 0x7F800000#32)) := rfl

theorem pre_g1 [Cert.Pre_near_apart.Facts] (arg0 : FVec Ideal S2x2048x1024 .f32) (arg1 : FVec Ideal S2x2048x64 .f32) (arg2 : FVec Ideal S1 .f32) (arg3 : FVec Ideal S1024x1024 .f32) (arg4 : FVec Ideal S1024 .f32) (arg5 : FVec Ideal S1024x1024 .f32) (arg6 : FVec Ideal S1024 .f32) (arg7 : FVec Ideal S1024x1024 .f32) (arg8 : FVec Ideal S1024 .f32) (arg9 : FVec Ideal S1024x1024 .f32) (arg10 : FVec Ideal S1024 .f32) (arg11 : FVec Ideal S4096x1024 .f32) (arg12 : FVec Ideal S4096 .f32) (arg13 : FVec Ideal S1024x4096 .f32) (arg14 : FVec Ideal S1024 .f32) (arg15 : FVec Ideal S1024 .f32) (arg16 : FVec Ideal S1024 .f32) (arg17 : FVec Ideal S1024 .f32) (arg18 : FVec Ideal S1024 .f32) (arg19 : FVec Ideal S_ .f32) :
    (fn (F := Ideal) arg0 arg1 arg2 arg3 arg4 arg5 arg6 arg7 arg8 arg9 arg10 arg11 arg12 arg13 arg14 arg15 arg16 arg17 arg18 arg19).2.2.2.2.1 =
      cmpf .olt (Host.absf arg15) (broadcastInDim S1024 ![] Facts.bcast_S_S1024 (constant S_ .f32 0x7F800000#32)) := rfl

theorem pre_be1 [Cert.Pre_near_apart.Facts] (arg0 : FVec Ideal S2x2048x1024 .f32) (arg1 : FVec Ideal S2x2048x64 .f32) (arg2 : FVec Ideal S1 .f32) (arg3 : FVec Ideal S1024x1024 .f32) (arg4 : FVec Ideal S1024 .f32) (arg5 : FVec Ideal S1024x1024 .f32) (arg6 : FVec Ideal S1024 .f32) (arg7 : FVec Ideal S1024x1024 .f32) (arg8 : FVec Ideal S1024 .f32) (arg9 : FVec Ideal S1024x1024 .f32) (arg10 : FVec Ideal S1024 .f32) (arg11 : FVec Ideal S4096x1024 .f32) (arg12 : FVec Ideal S4096 .f32) (arg13 : FVec Ideal S1024x4096 .f32) (arg14 : FVec Ideal S1024 .f32) (arg15 : FVec Ideal S1024 .f32) (arg16 : FVec Ideal S1024 .f32) (arg17 : FVec Ideal S1024 .f32) (arg18 : FVec Ideal S1024 .f32) (arg19 : FVec Ideal S_ .f32) :
    (fn (F := Ideal) arg0 arg1 arg2 arg3 arg4 arg5 arg6 arg7 arg8 arg9 arg10 arg11 arg12 arg13 arg14 arg15 arg16 arg17 arg18 arg19).2.2.2.2.2.1 =
      cmpf .olt (Host.absf arg16) (broadcastInDim S1024 ![] Facts.bcast_S_S1024 (constant S_ .f32 0x7F800000#32)) := rfl

theorem pre_lt [Cert.Pre_near_apart.Facts] (arg0 : FVec Ideal S2x2048x1024 .f32) (arg1 : FVec Ideal S2x2048x64 .f32) (arg2 : FVec Ideal S1 .f32) (arg3 : FVec Ideal S1024x1024 .f32) (arg4 : FVec Ideal S1024 .f32) (arg5 : FVec Ideal S1024x1024 .f32) (arg6 : FVec Ideal S1024 .f32) (arg7 : FVec Ideal S1024x1024 .f32) (arg8 : FVec Ideal S1024 .f32) (arg9 : FVec Ideal S1024x1024 .f32) (arg10 : FVec Ideal S1024 .f32) (arg11 : FVec Ideal S4096x1024 .f32) (arg12 : FVec Ideal S4096 .f32) (arg13 : FVec Ideal S1024x4096 .f32) (arg14 : FVec Ideal S1024 .f32) (arg15 : FVec Ideal S1024 .f32) (arg16 : FVec Ideal S1024 .f32) (arg17 : FVec Ideal S1024 .f32) (arg18 : FVec Ideal S1024 .f32) (arg19 : FVec Ideal S_ .f32) :
    (fn (F := Ideal) arg0 arg1 arg2 arg3 arg4 arg5 arg6 arg7 arg8 arg9 arg10 arg11 arg12 arg13 arg14 arg15 arg16 arg17 arg18 arg19).2.2.2.2.2.2.1 =
      cmpf .olt arg19 (constant S_ .f32 0x7F800000#32) := rfl

end

end Cert.Proof

end
-- ==== Proof.RefProj.lean ====
module

public import proofs.«01_k».proof.Proof.Gen.ReferenceIdeal.Read
public import proofs.«01_k».proof.Proof.Model
public import Idealize.ShloMosaic.Lib.Pointwise

@[expose] public section

noncomputable section

/-! The reference's first layer normalisation and its three projections, entry by entry. -/

namespace Cert.ReferenceIdeal.Read

open Cert.ReferenceIdeal Cert.ReferenceIdeal.Gen Cert.Spec
open Idealize.ShloMosaic Idealize.SL.Sem

/-- The count of a row's entries is positive, so the variance's guard always takes the quotient. -/
theorem guard (a z : EReal) :
    (if 0 < Ideal.ofBits FTy.f32 1149239296#32 - FloatOps.sitofp (F := Ideal) FTy.f32 0#32 then
      Ideal.div a (Ideal.ofBits FTy.f32 1149239296#32 - FloatOps.sitofp (F := Ideal) FTy.f32 0#32) else z) =
    Ideal.div a (Ideal.ofBits FTy.f32 1149239296#32) := by
  have h : Ideal.ofBits .f32 1149239296#32 = ((1024 : ℝ) : EReal) := by
    simp [Ideal.ofBits, Ideal.ieee, -EReal.coe_mul]; norm_num
  have h0 : FloatOps.sitofp (F := Ideal) FTy.f32 0#32 = (0 : EReal) := by
    show (((0#32 : BitVec 32).toInt : ℝ) : EReal) = 0
    simp
  rw [h0, h, sub_zero, if_pos (by exact_mod_cast (by norm_num : (0:ℝ) < 1024))]

theorem v17_apply (x0 : (⟨S2x2048x1024, .f32⟩ : BufTy).Contents (Elt Ideal)) (x15 x16 : (⟨S1024, .f32⟩ : BufTy).Contents (Elt Ideal)) (b : Fin 2) (n : Fin 2048) (t : Fin 1024) :
    val_main_v17 (F := Ideal) x0 x15 x16 (ix3 b n t) = lnR (fun k => x0 (ix3 b n k)) (fun k => x15 (ix1 k)) (fun k => x16 (ix1 k)) t := by
  unfold val_main_v17 val_main_v16 val_main_v15 val_main_v14 val_main_v13 val_main_v12 val_main_v11 val_main_v10 val_main_v9 val_main_v8 val_main_v7 val_main_cst_1 val_main_v6 val_main_v5 val_main_v4 val_main_call0_call0_v1 val_main_call0_call0_v0 val_main_call0_cst_4 val_main_call0_v13 val_main_call0_cst_3 val_main_call0_v12 val_main_call0_v11 val_main_call0_v10 val_main_call0_v9 val_main_call0_cst_2 val_main_call0_v8 val_main_call0_cst_1 val_main_call0_v7 val_main_call0_v6 val_main_call0_v5 val_main_call0_v4 val_main_call0_v3 val_main_call0_v2 val_main_call0_cst_0 val_main_call0_v1 val_main_call0_v0 val_main_call0_cst val_main_c val_main_v3 val_main_v2 val_main_cst_0 val_main_v1 val_main_v0 val_main_cst
  pointwise
  rw [guard]
  rfl

theorem v23_apply (x0 : (⟨S2x2048x1024, .f32⟩ : BufTy).Contents (Elt Ideal)) (x3 : (⟨S1024x1024, .f32⟩ : BufTy).Contents (Elt Ideal)) (x4 x15 x16 : (⟨S1024, .f32⟩ : BufTy).Contents (Elt Ideal)) (b : Fin 2) (n : Fin 2048) (h : Fin 16) (t : Fin 64) :
    val_main_v23 (F := Ideal) x0 x3 x4 x15 x16 (ix4 b n h t) =
      lin (lnR (fun k => x0 (ix3 b n k)) (fun k => x15 (ix1 k)) (fun k => x16 (ix1 k))) (fun k => x3 (ix2 (⟨h.val * 64 + t.val, by omega⟩ : Fin 1024) k)) (x4 (ix1 (⟨h.val * 64 + t.val, by omega⟩ : Fin 1024))) := by
  unfold val_main_v23 val_main_v22 val_main_v21 val_main_v20 val_main_v19 val_main_v18
  pointwise [dot_S2x2048x1024_S1024x1024_S2x2048x1024_2_0_01_1_n_n]
  simp only [v17_apply]
  rfl

theorem v30_apply (x0 : (⟨S2x2048x1024, .f32⟩ : BufTy).Contents (Elt Ideal)) (x5 : (⟨S1024x1024, .f32⟩ : BufTy).Contents (Elt Ideal)) (x6 x15 x16 : (⟨S1024, .f32⟩ : BufTy).Contents (Elt Ideal)) (b : Fin 2) (n : Fin 2048) (h : Fin 16) (t : Fin 64) :
    val_main_v30 (F := Ideal) x0 x5 x6 x15 x16 (ix4 b n h t) =
      lin (lnR (fun k => x0 (ix3 b n k)) (fun k => x15 (ix1 k)) (fun k => x16 (ix1 k))) (fun k => x5 (ix2 (⟨h.val * 64 + t.val, by omega⟩ : Fin 1024) k)) (x6 (ix1 (⟨h.val * 64 + t.val, by omega⟩ : Fin 1024))) := by
  unfold val_main_v30 val_main_v29 val_main_v28 val_main_v27 val_main_v26 val_main_v25
  pointwise [dot_S2x2048x1024_S1024x1024_S2x2048x1024_2_0_01_1_n_n]
  simp only [v17_apply]
  rfl

theorem v36_apply (x0 : (⟨S2x2048x1024, .f32⟩ : BufTy).Contents (Elt Ideal)) (x7 : (⟨S1024x1024, .f32⟩ : BufTy).Contents (Elt Ideal)) (x8 x15 x16 : (⟨S1024, .f32⟩ : BufTy).Contents (Elt Ideal)) (b : Fin 2) (n : Fin 2048) (h : Fin 16) (t : Fin 64) :
    val_main_v36 (F := Ideal) x0 x7 x8 x15 x16 (ix4 b n h t) =
      lin (lnR (fun k => x0 (ix3 b n k)) (fun k => x15 (ix1 k)) (fun k => x16 (ix1 k))) (fun k => x7 (ix2 (⟨h.val * 64 + t.val, by omega⟩ : Fin 1024) k)) (x8 (ix1 (⟨h.val * 64 + t.val, by omega⟩ : Fin 1024))) := by
  unfold val_main_v36 val_main_v35 val_main_v34 val_main_v33 val_main_v32 val_main_v31
  pointwise [dot_S2x2048x1024_S1024x1024_S2x2048x1024_2_0_01_1_n_n]
  simp only [v17_apply]
  rfl

end Cert.ReferenceIdeal.Read

end
-- ==== Proof.RefTail.lean ====
module

public import proofs.«01_k».proof.Proof.Gen.ReferenceIdeal.Read
public import proofs.«01_k».proof.Proof.Model
public import Idealize.ShloMosaic.Lib.Pointwise
public import proofs.«01_k».proof.Proof.RefProj

@[expose] public section

noncomputable section

/-! The reference's stages after attention, entry by entry. -/

namespace Cert.ReferenceIdeal.Read

open Cert.ReferenceIdeal Cert.ReferenceIdeal.Gen Cert.Spec
open Idealize.ShloMosaic Idealize.SL.Sem

theorem v145_apply (x0 : (⟨S2x2048x1024, .f32⟩ : BufTy).Contents (Elt Ideal)) (x1 : (⟨S2x2048x64, .f32⟩ : BufTy).Contents (Elt Ideal)) (x2 : (⟨S1, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 x15 x16 : (⟨S1024, .f32⟩ : BufTy).Contents (Elt Ideal)) (x19 : (⟨S_, .f32⟩ : BufTy).Contents (Elt Ideal)) (b : Fin 2) (n : Fin 2048) (t : Fin 1024) :
    val_main_v145 (F := Ideal) x0 x1 x2 x3 x4 x5 x6 x7 x8 x9 x10 x15 x16 x19 (ix3 b n t) =
      res (x0 (ix3 b n t)) (fun k => val_main_v139 (F := Ideal) x0 x1 x2 x3 x4 x5 x6 x7 x8 x15 x16 x19 (ix3 b n k)) (fun k => x9 (ix2 t k)) (x10 (ix1 t)) := by
  unfold val_main_v145 val_main_v144 val_main_v143 val_main_v142 val_main_v141 val_main_v140
  pointwise [dot_S2x2048x1024_S1024x1024_S2x2048x1024_2_0_01_1_n_n]
  rfl

theorem v163_apply (x0 : (⟨S2x2048x1024, .f32⟩ : BufTy).Contents (Elt Ideal)) (x1 : (⟨S2x2048x64, .f32⟩ : BufTy).Contents (Elt Ideal)) (x2 : (⟨S1, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 x15 x16 x17 x18 : (⟨S1024, .f32⟩ : BufTy).Contents (Elt Ideal)) (x19 : (⟨S_, .f32⟩ : BufTy).Contents (Elt Ideal)) (b : Fin 2) (n : Fin 2048) (t : Fin 1024) :
    val_main_v163 (F := Ideal) x0 x1 x2 x3 x4 x5 x6 x7 x8 x9 x10 x15 x16 x17 x18 x19 (ix3 b n t) =
      lnR (fun k => val_main_v145 (F := Ideal) x0 x1 x2 x3 x4 x5 x6 x7 x8 x9 x10 x15 x16 x19 (ix3 b n k)) (fun k => x17 (ix1 k)) (fun k => x18 (ix1 k)) t := by
  unfold val_main_v163 val_main_v162 val_main_v161 val_main_v160 val_main_v159 val_main_v158 val_main_v157 val_main_v156 val_main_v155 val_main_v154 val_main_v153 val_main_cst_27 val_main_v152 val_main_v151 val_main_v150 val_main_call2_call0_v1 val_main_call2_call0_v0 val_main_call2_cst_4 val_main_call2_v13 val_main_call2_cst_3 val_main_call2_v12 val_main_call2_v11 val_main_call2_v10 val_main_call2_v9 val_main_call2_cst_2 val_main_call2_v8 val_main_call2_cst_1 val_main_call2_v7 val_main_call2_v6 val_main_call2_v5 val_main_call2_v4 val_main_call2_v3 val_main_call2_v2 val_main_call2_cst_0 val_main_call2_v1 val_main_call2_v0 val_main_call2_cst val_main_c_26 val_main_v149 val_main_v148 val_main_cst_25 val_main_v147 val_main_v146 val_main_cst_24
  pointwise
  rw [guard]
  rfl

theorem v175_apply (x0 : (⟨S2x2048x1024, .f32⟩ : BufTy).Contents (Elt Ideal)) (x1 : (⟨S2x2048x64, .f32⟩ : BufTy).Contents (Elt Ideal)) (x2 : (⟨S1, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S4096x1024, .f32⟩ : BufTy).Contents (Elt Ideal)) (x12 : (⟨S4096, .f32⟩ : BufTy).Contents (Elt Ideal)) (x15 x16 x17 x18 : (⟨S1024, .f32⟩ : BufTy).Contents (Elt Ideal)) (x19 : (⟨S_, .f32⟩ : BufTy).Contents (Elt Ideal)) (b : Fin 2) (n : Fin 2048) (t : Fin 4096) :
    val_main_v175 (F := Ideal) x0 x1 x2 x3 x4 x5 x6 x7 x8 x9 x10 x11 x12 x15 x16 x17 x18 x19 (ix3 b n t) =
      geluR (lin (fun k => val_main_v163 (F := Ideal) x0 x1 x2 x3 x4 x5 x6 x7 x8 x9 x10 x15 x16 x17 x18 x19 (ix3 b n k)) (fun k => x11 (ix2 t k)) (x12 (ix1 t))) := by
  unfold val_main_v175 val_main_v174 val_main_v173 val_main_v172 val_main_cst_29 val_main_v171 val_main_v170 val_main_v169 val_main_cst_28 val_main_v168 val_main_v167 val_main_v166 val_main_v165 val_main_v164
  pointwise [dot_S2x2048x1024_S1024x4096_S2x2048x4096_2_0_01_1_n_n]
  rfl

theorem v181_apply (x0 : (⟨S2x2048x1024, .f32⟩ : BufTy).Contents (Elt Ideal)) (x1 : (⟨S2x2048x64, .f32⟩ : BufTy).Contents (Elt Ideal)) (x2 : (⟨S1, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S4096x1024, .f32⟩ : BufTy).Contents (Elt Ideal)) (x12 : (⟨S4096, .f32⟩ : BufTy).Contents (Elt Ideal)) (x13 : (⟨S1024x4096, .f32⟩ : BufTy).Contents (Elt Ideal)) (x14 x15 x16 x17 x18 : (⟨S1024, .f32⟩ : BufTy).Contents (Elt Ideal)) (x19 : (⟨S_, .f32⟩ : BufTy).Contents (Elt Ideal)) (b : Fin 2) (n : Fin 2048) (t : Fin 1024) :
    val_main_v181 (F := Ideal) x0 x1 x2 x3 x4 x5 x6 x7 x8 x9 x10 x11 x12 x13 x14 x15 x16 x17 x18 x19 (ix3 b n t) =
      val_main_v145 (F := Ideal) x0 x1 x2 x3 x4 x5 x6 x7 x8 x9 x10 x15 x16 x19 (ix3 b n t) + lin (fun k => val_main_v175 (F := Ideal) x0 x1 x2 x3 x4 x5 x6 x7 x8 x9 x10 x11 x12 x15 x16 x17 x18 x19 (ix3 b n k)) (fun k => x13 (ix2 t k)) (x14 (ix1 t)) := by
  unfold val_main_v181 val_main_v180 val_main_v179 val_main_v178 val_main_v177 val_main_v176
  pointwise [dot_S2x2048x4096_S4096x1024_S2x2048x1024_2_0_01_1_n_n]
  rfl

end Cert.ReferenceIdeal.Read

end
-- ==== Proof.RefRun.lean ====
module

public import proofs.«01_k».proof.Proof.RefProj
public import proofs.«01_k».proof.Proof.RefNear
public import proofs.«01_k».proof.Proof.RefTail

@[expose] public section

noncomputable section

/-! The reference's attention, and its result as a whole: each entry is the model's. -/

namespace Cert.ReferenceIdeal.Read

open Cert.ReferenceIdeal Cert.ReferenceIdeal.Gen Cert.Spec
open Idealize.ShloMosaic Idealize.SL.Sem

theorem v125_apply (x0 : (⟨S2x2048x1024, .f32⟩ : BufTy).Contents (Elt Ideal)) (x1 : (⟨S2x2048x64, .f32⟩ : BufTy).Contents (Elt Ideal)) (x2 : (⟨S1, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 x15 x16 : (⟨S1024, .f32⟩ : BufTy).Contents (Elt Ideal)) (x19 : (⟨S_, .f32⟩ : BufTy).Contents (Elt Ideal)) (b : Fin 2) (n : Fin 2048) (h r : Fin 16) :
    val_main_v125 (F := Ideal) x0 x1 x2 x3 x4 x5 x6 x15 x16 x19 (ix4 b h n r) =
      Ideal.div (∑ y : Fin 64, val_main_v23 (F := Ideal) x0 x3 x4 x15 x16 (ix4 b n h y) * val_main_v96 (F := Ideal) x0 x1 x2 x5 x6 x15 x16 (ix5 b n r h y)) (Ideal.sqrt (Ideal.ofBits .f32 1115684864#32))
        + Ideal.div (- -(val_main_values (F := Ideal) x1 x2 (ix3 b n r))) (Ideal.exp (x19 ix0) + Ideal.ofBits .f32 841731191#32) := by
  unfold val_main_v125 val_main_v124 val_main_v123 val_main_v122 val_main_v121 val_main_v120 val_main_v119 val_main_cst_20 val_main_v118 val_main_v117 val_main_v116 val_main_v115 val_main_cst_19 val_main_v114 val_main_v112 val_main_v79 val_main_v24
  pointwise [dot_S2x16x2048x64_S2x16x2048x16x64_S2x16x2048x16_3_4_n_3_012_012]

theorem v139_apply (x0 : (⟨S2x2048x1024, .f32⟩ : BufTy).Contents (Elt Ideal)) (x1 : (⟨S2x2048x64, .f32⟩ : BufTy).Contents (Elt Ideal)) (x2 : (⟨S1, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 x15 x16 : (⟨S1024, .f32⟩ : BufTy).Contents (Elt Ideal)) (x19 : (⟨S_, .f32⟩ : BufTy).Contents (Elt Ideal)) (b : Fin 2) (n : Fin 2048) (e : Fin 1024) :
    val_main_v139 (F := Ideal) x0 x1 x2 x3 x4 x5 x6 x7 x8 x15 x16 x19 (ix3 b n e) =
      ∑ r : Fin 16, soft (fun s => val_main_v125 (F := Ideal) x0 x1 x2 x3 x4 x5 x6 x15 x16 x19 (ix4 b (⟨e.val / 64, by omega⟩ : Fin 16) n s)) r *
        val_main_v111 (F := Ideal) x0 x1 x2 x7 x8 x15 x16 (ix5 b n r (⟨e.val / 64, by omega⟩ : Fin 16) (⟨e.val % 64, by omega⟩ : Fin 64)) := by
  unfold val_main_v139 val_main_v138 val_main_v137 val_main_v136 val_main_v135 val_main_v134 val_main_v133 val_main_cst_23 val_main_v132 val_main_v131 val_main_v130 val_main_v129 val_main_v128 val_main_v127 val_main_cst_22 val_main_v126 val_main_cst_21 val_main_v113
  pointwise [dot_S2x16x2048x16_S2x16x2048x16x64_S2x16x2048x64_3_3_n_4_012_012]
  rfl

/-- The reference's arguments as plain functions. -/
def rargs (x0 : (⟨S2x2048x1024, .f32⟩ : BufTy).Contents (Elt Ideal)) (x1 : (⟨S2x2048x64, .f32⟩ : BufTy).Contents (Elt Ideal)) (x2 : (⟨S1, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S4096x1024, .f32⟩ : BufTy).Contents (Elt Ideal)) (x12 : (⟨S4096, .f32⟩ : BufTy).Contents (Elt Ideal)) (x13 : (⟨S1024x4096, .f32⟩ : BufTy).Contents (Elt Ideal)) (x14 x15 x16 x17 x18 : (⟨S1024, .f32⟩ : BufTy).Contents (Elt Ideal)) (x19 : (⟨S_, .f32⟩ : BufTy).Contents (Elt Ideal)) : Args where
  x := fun b n t => x0 (ix3 b n t)
  pos := fun b n t => x1 (ix3 b n t)
  c := x2 (ix1 0)
  wq := fun j k => x3 (ix2 j k)
  bq := fun j => x4 (ix1 j)
  wk := fun j k => x5 (ix2 j k)
  bk := fun j => x6 (ix1 j)
  wv := fun j k => x7 (ix2 j k)
  bv := fun j => x8 (ix1 j)
  wo := fun j k => x9 (ix2 j k)
  bo := fun j => x10 (ix1 j)
  w1 := fun j k => x11 (ix2 j k)
  b1 := fun j => x12 (ix1 j)
  w2 := fun j k => x13 (ix2 j k)
  b2 := fun j => x14 (ix1 j)
  g1 := fun j => x15 (ix1 j)
  be1 := fun j => x16 (ix1 j)
  g2 := fun j => x17 (ix1 j)
  be2 := fun j => x18 (ix1 j)
  lt := x19 ix0

/-- The reference's attention output is the model's. -/
theorem attn_apply (x0 : (⟨S2x2048x1024, .f32⟩ : BufTy).Contents (Elt Ideal)) (x1 : (⟨S2x2048x64, .f32⟩ : BufTy).Contents (Elt Ideal)) (x2 : (⟨S1, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S4096x1024, .f32⟩ : BufTy).Contents (Elt Ideal)) (x12 : (⟨S4096, .f32⟩ : BufTy).Contents (Elt Ideal)) (x13 : (⟨S1024x4096, .f32⟩ : BufTy).Contents (Elt Ideal)) (x14 x15 x16 x17 x18 : (⟨S1024, .f32⟩ : BufTy).Contents (Elt Ideal)) (x19 : (⟨S_, .f32⟩ : BufTy).Contents (Elt Ideal)) (b : Fin 2) (n : Fin 2048) (e : Fin 1024) :
    val_main_v139 (F := Ideal) x0 x1 x2 x3 x4 x5 x6 x7 x8 x15 x16 x19 (ix3 b n e) = (rargs x0 x1 x2 x3 x4 x5 x6 x7 x8 x9 x10 x11 x12 x13 x14 x15 x16 x17 x18 x19).attnR b n e := by
  have hc : (⟨e.val / 64 * 64 + e.val % 64, by omega⟩ : Fin 1024) = e := Fin.ext (by show e.val / 64 * 64 + e.val % 64 = e.val; omega)
  rw [v139_apply]
  simp only [v125_apply, v111_apply, v96_apply, v23_apply, v30_apply, v36_apply, values_apply, hc]
  rfl

/-- The reference's result is the model's. -/
theorem out_apply (x0 : (⟨S2x2048x1024, .f32⟩ : BufTy).Contents (Elt Ideal)) (x1 : (⟨S2x2048x64, .f32⟩ : BufTy).Contents (Elt Ideal)) (x2 : (⟨S1, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S4096x1024, .f32⟩ : BufTy).Contents (Elt Ideal)) (x12 : (⟨S4096, .f32⟩ : BufTy).Contents (Elt Ideal)) (x13 : (⟨S1024x4096, .f32⟩ : BufTy).Contents (Elt Ideal)) (x14 x15 x16 x17 x18 : (⟨S1024, .f32⟩ : BufTy).Contents (Elt Ideal)) (x19 : (⟨S_, .f32⟩ : BufTy).Contents (Elt Ideal)) (b : Fin 2) (n : Fin 2048) (t : Fin 1024) :
    val_main_v181 (F := Ideal) x0 x1 x2 x3 x4 x5 x6 x7 x8 x9 x10 x11 x12 x13 x14 x15 x16 x17 x18 x19 (ix3 b n t) = (rargs x0 x1 x2 x3 x4 x5 x6 x7 x8 x9 x10 x11 x12 x13 x14 x15 x16 x17 x18 x19).outR b n t := by
  have h1 : ∀ t, val_main_v145 (F := Ideal) x0 x1 x2 x3 x4 x5 x6 x7 x8 x9 x10 x15 x16 x19 (ix3 b n t) = (rargs x0 x1 x2 x3 x4 x5 x6 x7 x8 x9 x10 x11 x12 x13 x14 x15 x16 x17 x18 x19).x1R b n t := by
    intro t
    rw [v145_apply]
    simp only [attn_apply x0 x1 x2 x3 x4 x5 x6 x7 x8 x9 x10 x11 x12 x13 x14 x15 x16 x17 x18 x19]
    rfl
  rw [v181_apply]
  simp only [v175_apply, v163_apply, h1]
  rfl

end Cert.ReferenceIdeal.Read

end
-- ==== Proof.Good.lean ====
module

public import proofs.«01_k».proof.Proof.Precondition
public import proofs.«01_k».proof.Proof.RefRun

@[expose] public section

noncomputable section

/-! Arguments that meet the precondition are good: the model's condition holds of them. -/

namespace Cert.Proof

open Cert.Spec Cert.Pre_near_apart
open Idealize.ShloMosaic Idealize.SL.Sem

/-- A number whose magnitude is below infinity is finite. -/
theorem fin_of_flag (v : EReal) (h : Ideal.cmp .olt (max v (-v)) (Ideal.ofBits .f32 2139095040#32) = 1#1) : IsFin v := by
  have ht : Ideal.ofBits .f32 2139095040#32 = ⊤ := by simp [Ideal.ofBits, Ideal.ieee]
  rw [ht] at h
  have hlt : max v (-v) < ⊤ := by
    by_contra hn
    have : Ideal.cmp .olt (max v (-v)) ⊤ = 0#1 := by
      show BitVec.ofBool (decide (max v (-v) < ⊤)) = 0#1
      rw [decide_eq_false hn]
      rfl
    rw [this] at h
    exact absurd h (by decide)
  induction v with
  | bot => exact absurd hlt (by simp)
  | top => exact absurd hlt (by simp)
  | coe r => exact ⟨r, rfl⟩

/-- A number below infinity. -/
theorem ne_top_of_flag (v : EReal) (h : Ideal.cmp .olt v (Ideal.ofBits .f32 2139095040#32) = 1#1) : v ≠ ⊤ := by
  rintro rfl
  have ht : Ideal.ofBits .f32 2139095040#32 = ⊤ := by simp [Ideal.ofBits, Ideal.ieee]
  rw [ht] at h
  have : Ideal.cmp .olt ⊤ ⊤ = 0#1 := by
    show BitVec.ofBool (decide ((⊤ : EReal) < ⊤)) = 0#1
    rw [decide_eq_false (lt_irrefl _)]
    rfl
  rw [this] at h
  exact absurd h (by decide)

theorem places_apply [Cert.Pre_near_apart.Facts] (arg1 : FVec Ideal S2x2048x64 .f32) (arg2 : FVec Ideal S1 .f32) (o : ℕ) (ho : o ≤ 2)
    (h : S2x2048x17.Slices ![0, 0, o] S2x2048x15) (b : Fin 2) (n : Fin 2048) (r : Fin 15) (s : Fin 2048) (hs : s.val = o + r.val) :
    places arg1 arg2 ![0, 0, o] h (ix3 b n r) =
      - Cert.ReferenceIdeal.Read.dist arg1 arg2 b n (nth (Cert.ReferenceIdeal.Read.dist arg1 arg2 b n) s) := by
  have hlt : o + r.val < 2048 := by omega
  have hs' : s = ⟨o + r.val, hlt⟩ := Fin.ext hs
  clear hs
  rw [hs']
  clear hs' s
  unfold places Host.topK
  pointwise
  refine (Cert.ReferenceIdeal.Read.sort_fst _ _ _ b n _).trans ?_
  refine (Cert.ReferenceIdeal.Read.v78_apply arg1 arg2 b n _).trans ?_
  exact congrArg (fun z : Fin 2048 => - Cert.ReferenceIdeal.Read.dist arg1 arg2 b n z) (Cert.ReferenceIdeal.Read.place arg1 arg2 b n _)

theorem lt_of_flag (u v : EReal) (h : Ideal.cmp .ogt (-u) (-v) = 1#1) : u < v := by
  by_contra hn
  have : Ideal.cmp .ogt (-u) (-v) = 0#1 := by
    show BitVec.ofBool (decide (-v < -u)) = 0#1
    rw [decide_eq_false (by rw [EReal.neg_lt_neg_iff]; exact hn)]
    rfl
  rw [this] at h
  exact absurd h (by decide)

theorem good [Cert.Pre_near_apart.Facts] (arg0 : FVec Ideal S2x2048x1024 .f32) (arg1 : FVec Ideal S2x2048x64 .f32) (arg2 : FVec Ideal S1 .f32) (arg3 : FVec Ideal S1024x1024 .f32) (arg4 : FVec Ideal S1024 .f32) (arg5 : FVec Ideal S1024x1024 .f32) (arg6 : FVec Ideal S1024 .f32) (arg7 : FVec Ideal S1024x1024 .f32) (arg8 : FVec Ideal S1024 .f32) (arg9 : FVec Ideal S1024x1024 .f32) (arg10 : FVec Ideal S1024 .f32) (arg11 : FVec Ideal S4096x1024 .f32) (arg12 : FVec Ideal S4096 .f32) (arg13 : FVec Ideal S1024x4096 .f32) (arg14 : FVec Ideal S1024 .f32) (arg15 : FVec Ideal S1024 .f32) (arg16 : FVec Ideal S1024 .f32) (arg17 : FVec Ideal S1024 .f32) (arg18 : FVec Ideal S1024 .f32) (arg19 : FVec Ideal S_ .f32)
    (h0 : (fn (F := Ideal) arg0 arg1 arg2 arg3 arg4 arg5 arg6 arg7 arg8 arg9 arg10 arg11 arg12 arg13 arg14 arg15 arg16 arg17 arg18 arg19).1 = fun _ => 1#1)
    (h1 : (fn (F := Ideal) arg0 arg1 arg2 arg3 arg4 arg5 arg6 arg7 arg8 arg9 arg10 arg11 arg12 arg13 arg14 arg15 arg16 arg17 arg18 arg19).2.1 = fun _ => 1#1)
    (h2 : (fn (F := Ideal) arg0 arg1 arg2 arg3 arg4 arg5 arg6 arg7 arg8 arg9 arg10 arg11 arg12 arg13 arg14 arg15 arg16 arg17 arg18 arg19).2.2.1 = fun _ => 1#1)
    (h3 : (fn (F := Ideal) arg0 arg1 arg2 arg3 arg4 arg5 arg6 arg7 arg8 arg9 arg10 arg11 arg12 arg13 arg14 arg15 arg16 arg17 arg18 arg19).2.2.2.1 = fun _ => 1#1)
    (h4 : (fn (F := Ideal) arg0 arg1 arg2 arg3 arg4 arg5 arg6 arg7 arg8 arg9 arg10 arg11 arg12 arg13 arg14 arg15 arg16 arg17 arg18 arg19).2.2.2.2.1 = fun _ => 1#1)
    (h5 : (fn (F := Ideal) arg0 arg1 arg2 arg3 arg4 arg5 arg6 arg7 arg8 arg9 arg10 arg11 arg12 arg13 arg14 arg15 arg16 arg17 arg18 arg19).2.2.2.2.2.1 = fun _ => 1#1)
    (h6 : (fn (F := Ideal) arg0 arg1 arg2 arg3 arg4 arg5 arg6 arg7 arg8 arg9 arg10 arg11 arg12 arg13 arg14 arg15 arg16 arg17 arg18 arg19).2.2.2.2.2.2.1 = fun _ => 1#1)
    (h7 : (fn (F := Ideal) arg0 arg1 arg2 arg3 arg4 arg5 arg6 arg7 arg8 arg9 arg10 arg11 arg12 arg13 arg14 arg15 arg16 arg17 arg18 arg19).2.2.2.2.2.2.2 = fun _ => 1#1) :
    (Cert.ReferenceIdeal.Read.rargs arg0 arg1 arg2 arg3 arg4 arg5 arg6 arg7 arg8 arg9 arg10 arg11 arg12 arg13 arg14 arg15 arg16 arg17 arg18 arg19).Good where
  wq := fun j k => fin_of_flag _ (congrFun ((pre_wq arg0 arg1 arg2 arg3 arg4 arg5 arg6 arg7 arg8 arg9 arg10 arg11 arg12 arg13 arg14 arg15 arg16 arg17 arg18 arg19).symm.trans h0) (ix2 j k))
  bq := fun j => fin_of_flag _ (congrFun ((pre_bq arg0 arg1 arg2 arg3 arg4 arg5 arg6 arg7 arg8 arg9 arg10 arg11 arg12 arg13 arg14 arg15 arg16 arg17 arg18 arg19).symm.trans h1) (ix1 j))
  wk := fun j k => fin_of_flag _ (congrFun ((pre_wk arg0 arg1 arg2 arg3 arg4 arg5 arg6 arg7 arg8 arg9 arg10 arg11 arg12 arg13 arg14 arg15 arg16 arg17 arg18 arg19).symm.trans h2) (ix2 j k))
  bk := fun j => fin_of_flag _ (congrFun ((pre_bk arg0 arg1 arg2 arg3 arg4 arg5 arg6 arg7 arg8 arg9 arg10 arg11 arg12 arg13 arg14 arg15 arg16 arg17 arg18 arg19).symm.trans h3) (ix1 j))
  g1 := fun j => fin_of_flag _ (congrFun ((pre_g1 arg0 arg1 arg2 arg3 arg4 arg5 arg6 arg7 arg8 arg9 arg10 arg11 arg12 arg13 arg14 arg15 arg16 arg17 arg18 arg19).symm.trans h4) (ix1 j))
  be1 := fun j => fin_of_flag _ (congrFun ((pre_be1 arg0 arg1 arg2 arg3 arg4 arg5 arg6 arg7 arg8 arg9 arg10 arg11 arg12 arg13 arg14 arg15 arg16 arg17 arg18 arg19).symm.trans h5) (ix1 j))
  lt := ne_top_of_flag _ (congrFun ((pre_lt arg0 arg1 arg2 arg3 arg4 arg5 arg6 arg7 arg8 arg9 arg10 arg11 arg12 arg13 arg14 arg15 arg16 arg17 arg18 arg19).symm.trans h6) (ix0))
  apart := fun b n r h1 hr => by
    have h := congrFun ((pre_apart arg0 arg1 arg2 arg3 arg4 arg5 arg6 arg7 arg8 arg9 arg10 arg11 arg12 arg13 arg14 arg15 arg16 arg17 arg18 arg19).symm.trans h7) (ix3 b n (⟨r - 1, by omega⟩ : Fin 15))
    have h' : Ideal.cmp .ogt (places arg1 arg2 ![0, 0, 1] Facts.slices_S2x2048x17_S2x2048x15_0_0_1 (ix3 b n (⟨r - 1, by omega⟩ : Fin 15)))
      (places arg1 arg2 ![0, 0, 2] Facts.slices_S2x2048x17_S2x2048x15_0_0_2 (ix3 b n (⟨r - 1, by omega⟩ : Fin 15))) = 1#1 := h
    rw [places_apply arg1 arg2 1 (by omega) _ b n _ ⟨r, by omega⟩ (by show r = 1 + (r - 1); omega),
      places_apply arg1 arg2 2 (by omega) _ b n _ ⟨r + 1, by omega⟩ (by show r + 1 = 2 + (r - 1); omega)] at h'
    exact lt_of_flag _ _ h'

end Cert.Proof

end
-- ==== Proof.Region0.lean ====
module

public import proofs.«01_k».proof.Proof.Gen.KernelIdeal.Frame
public import proofs.«01_k».proof.Proof.Spec
public import Idealize.ShloMosaic.Lib.Pointwise
public import Idealize.ShloMosaic.Lib.Pipeline.ValueKit
public import Idealize.ShloMosaic.Lib.Claim

@[expose] public section

noncomputable section

namespace Cert.KernelIdeal.Value

open Cert.KernelIdeal Cert.KernelIdeal.Gen Cert.Spec
open Idealize.ShloMosaic Idealize.ShloMosaic.TcCoe Idealize.SL.Sem

variable (V : (c : Dev nD) → (b : Ref sig .tc) → Buf (Elt Ideal) ((c : Thread nD τ).loc b))

theorem pay3_apply (x : Vec Ideal S512x1024 .f32) (g b : Vec Ideal S1x1024 .f32) (r : Fin 512) (t : Fin 1024) :
    k0_pay3 (F := Ideal) x g b (ix2 r t) = lnK (fun k => x (ix2 r k)) (fun k => g (ix2 0 k)) (fun k => b (ix2 0 k)) t := by
  unfold_payloads
  pointwise
  rfl

theorem pay4_apply (x : Vec Ideal S512x1024 .f32) (g b : Vec Ideal S1x1024 .f32) (w : Vec Ideal S1024x1024 .bf16)
    (bq : Vec Ideal S1x1024 .f32) (r : Fin 512) (t : Fin 1024) :
    k0_pay4 (F := Ideal) x g b w bq (ix2 r t) = lin (fun k => k0_pay3 (F := Ideal) x g b (ix2 r k)) (fun k => w (ix2 t k)) (bq (ix2 0 t))
      * Ideal.div 1 (Ideal.sqrt (Ideal.ofBits .f32 1115684864#32)) := by
  unfold_payloads
  pointwise [dot_S512x1024_S1024x1024_S512x1024_1_1_0_0_n_n]
  rfl

theorem pay6_apply (a : Vec Ideal S512x1024 .bf16) (w : Vec Ideal S1024x1024 .bf16)
    (bq : Vec Ideal S1x1024 .f32) (r : Fin 512) (t : Fin 1024) :
    k0_pay6 (F := Ideal) a w bq (ix2 r t) = lin (fun k => a (ix2 r k)) (fun k => w (ix2 t k)) (bq (ix2 0 t)) := by
  unfold_payloads
  pointwise [dot_S512x1024_S1024x1024_S512x1024_1_1_0_0_n_n]
  rfl

theorem pay5_apply (a : Vec Ideal S512x1024 .bf16) (w : Vec Ideal S1024x1024 .bf16)
    (bq : Vec Ideal S1x1024 .f32) (r : Fin 512) (t : Fin 1024) :
    k0_pay5 (F := Ideal) a w bq (ix2 r t) = lin (fun k => a (ix2 r k)) (fun k => w (ix2 t k)) (bq (ix2 0 t)) := by
  unfold_payloads
  pointwise [dot_S512x1024_S1024x1024_S512x1024_1_1_0_0_n_n]
  rfl

/-- The value columns of head `h` are the head's slice of the value rows; the 64 columns after them are a one and zeros. -/
theorem out0_11_apply (x0 : Vec Ideal S512x1024 .f32) (x1 x2 x3 : Vec Ideal S1024x1024 .bf16)
    (x4 x5 x6 x7 x8 : Vec Ideal S1x1024 .f32) (r : Fin 512) (t : Fin 2048) :
    out0_11 (F := Ideal) x0 x1 x2 x3 x4 x5 x6 x7 x8 (ix2 r t) =
      if t.val % 128 < 64 then
        lin (fun k => k0_pay3 (F := Ideal) x0 x7 x8 (ix2 r k)) (fun k => x3 (ix2 ⟨t.val / 128 * 64 + t.val % 64, by omega⟩ k))
          (x6 (ix2 0 ⟨t.val / 128 * 64 + t.val % 64, by omega⟩))
      else k0_pay7 (F := Ideal) (ix2 r ⟨t.val % 64, by omega⟩) := by
  unfold_out out0_11
  canon_tiles x h
  all_goals
    obtain ⟨a, b, rfl⟩ : ∃ a b, x = ix2 a b := ⟨x 0, x 1, by funext i; fin_cases i <;> rfl⟩
    obtain rfl : r = a := Fin.ext h0
    have hb : ((ix2 r b : S512x64.Idx) 1).val = b.val := rfl
    rw [hb] at h1 x1_lt
    change t.val = _ at h1
    first
      | rw [if_neg (by omega)]
        refine congrArg (fun z => k0_pay7 (F := Ideal) (ix2 r z)) (Fin.ext ?_)
        dsimp only
        omega
      | rw [if_pos (by omega)]
        open_payloads
        unfold_payloads
        pointwise [dot_S512x1024_S1024x1024_S512x1024_1_1_0_0_n_n]
        refine congrArg₂ (· + ·) (Finset.sum_congr rfl fun k _ => congrArg₂ (· * ·) rfl
          (congrArg x3 (congrArg (ix2 · k) (Fin.ext ?_)))) (congrArg x6 (congrArg (ix2 0 ·) (Fin.ext ?_)))
        all_goals
          dsimp only
          omega

/-! Where each window's block sits in its array. -/

theorem idx0 : ∀ t : Fin cfg0.N, win0_0.index t = ![t.val, 0] ∧ win0_9.index t = ![t.val, 0] ∧
    win0_10.index t = ![t.val, 0] ∧ win0_11.index t = ![t.val, 0] :=
  (by decide +kernel : ∀ t : Fin grid0.N, win0_0.index t = ![t.val, 0] ∧ win0_9.index t = ![t.val, 0] ∧
    win0_10.index t = ![t.val, 0] ∧ win0_11.index t = ![t.val, 0])

theorem iblk0_0_apply (c : Dev nD) (t : Fin cfg0.N) (r : Fin 512) (k : Fin 1024) (R : Fin 4096) (hR : R.val = t.val * 512 + r.val) :
    iblk0 V c 0 t (ix2 r k) = V c main_v0 (ix2 R k) := by
  blk_simp [iblk0]
  congr 1
  blk_ext [(idx0 t).1]

theorem iblk0_1_apply (c : Dev nD) (t : Fin cfg0.N) (r k : Fin 1024) : iblk0 V c 1 t (ix2 r k) = V c main_v1 (ix2 r k) := by
  blk_simp [iblk0]
  congr 1
  blk_ext [(show win0_1.index t = ![0, 0] from rfl)]

theorem iblk0_2_apply (c : Dev nD) (t : Fin cfg0.N) (r k : Fin 1024) : iblk0 V c 2 t (ix2 r k) = V c main_v2 (ix2 r k) := by
  blk_simp [iblk0]
  congr 1
  blk_ext [(show win0_2.index t = ![0, 0] from rfl)]

theorem iblk0_3_apply (c : Dev nD) (t : Fin cfg0.N) (r k : Fin 1024) : iblk0 V c 3 t (ix2 r k) = V c main_v3 (ix2 r k) := by
  blk_simp [iblk0]
  congr 1
  blk_ext [(show win0_3.index t = ![0, 0] from rfl)]

theorem iblk0_4_apply (c : Dev nD) (t : Fin cfg0.N) (k : Fin 1024) : iblk0 V c 4 t (ix2 0 k) = V c main_v4 (ix2 0 k) := by
  blk_simp [iblk0]
  congr 1
  blk_ext [(show win0_4.index t = ![0, 0] from rfl)]

theorem iblk0_5_apply (c : Dev nD) (t : Fin cfg0.N) (k : Fin 1024) : iblk0 V c 5 t (ix2 0 k) = V c main_v5 (ix2 0 k) := by
  blk_simp [iblk0]
  congr 1
  blk_ext [(show win0_5.index t = ![0, 0] from rfl)]

theorem iblk0_6_apply (c : Dev nD) (t : Fin cfg0.N) (k : Fin 1024) : iblk0 V c 6 t (ix2 0 k) = V c main_v6 (ix2 0 k) := by
  blk_simp [iblk0]
  congr 1
  blk_ext [(show win0_6.index t = ![0, 0] from rfl)]

theorem iblk0_7_apply (c : Dev nD) (t : Fin cfg0.N) (k : Fin 1024) : iblk0 V c 7 t (ix2 0 k) = V c main_v7 (ix2 0 k) := by
  blk_simp [iblk0]
  congr 1
  blk_ext [(show win0_7.index t = ![0, 0] from rfl)]

theorem iblk0_8_apply (c : Dev nD) (t : Fin cfg0.N) (k : Fin 1024) : iblk0 V c 8 t (ix2 0 k) = V c main_v8 (ix2 0 k) := by
  blk_simp [iblk0]
  congr 1
  blk_ext [(show win0_8.index t = ![0, 0] from rfl)]

/-- A row of the normalised activations that region 0 computes, from the arrays it finds. -/
def xn (c : Dev nD) (R : Fin 4096) (k : Fin 1024) : EReal :=
  lnK (fun k => V c main_v0 (ix2 R k)) (fun k => V c main_v7 (ix2 0 k)) (fun k => V c main_v8 (ix2 0 k)) k

theorem blockRow (c : Dev nD) (t : Fin cfg0.N) (r : Fin 512) (R : Fin 4096) (hR : R.val = t.val * 512 + r.val) (k : Fin 1024) :
    k0_pay3 (F := Ideal) (iblk0 V c 0 t) (iblk0 V c 7 t) (iblk0 V c 8 t) (ix2 r k) = xn V c R k := by
  rw [pay3_apply]
  unfold xn
  simp only [iblk0_7_apply, iblk0_8_apply, iblk0_0_apply V c t r _ R hR]

/-- The scaled query of row `R`, at column `e`. -/
def qAt (c : Dev nD) (R : Fin 4096) (e : Fin 1024) : EReal :=
  lin (xn V c R) (fun k => V c main_v1 (ix2 e k)) (V c main_v4 (ix2 0 e))
    * Ideal.div 1 (Ideal.sqrt (Ideal.ofBits .f32 1115684864#32))

/-- The key of row `R`, at column `e`. -/
def kAt (c : Dev nD) (R : Fin 4096) (e : Fin 1024) : EReal :=
  lin (xn V c R) (fun k => V c main_v2 (ix2 e k)) (V c main_v5 (ix2 0 e))

/-- The value of row `R`, at column `e`. -/
def vAt (c : Dev nD) (R : Fin 4096) (e : Fin 1024) : EReal :=
  lin (xn V c R) (fun k => V c main_v3 (ix2 e k)) (V c main_v6 (ix2 0 e))

/-- The values with each head's 64 columns followed by a column of ones and 63 columns of zeros. -/
def vxAt (c : Dev nD) (R : Fin 4096) (e : Fin 2048) : EReal :=
  if e.val % 128 < 64 then vAt V c R ⟨e.val / 128 * 64 + e.val % 64, by omega⟩
  else k0_pay7 (F := Ideal) (ix2 0 ⟨e.val % 64, by omega⟩)

def qArr (c : Dev nD) (i : S4096x1024.Idx) : EReal := qAt V c (i 0) (i 1)
def kArr (c : Dev nD) (i : S4096x1024.Idx) : EReal := kAt V c (i 0) (i 1)
def vxArr (c : Dev nD) (i : S4096x2048.Idx) : EReal := vxAt V c (i 0) (i 1)
theorem qArr_apply (c : Dev nD) (R : Fin 4096) (e : Fin 1024) : qArr V c (ix2 R e) = qAt V c R e := rfl
theorem kArr_apply (c : Dev nD) (R : Fin 4096) (e : Fin 1024) : kArr V c (ix2 R e) = kAt V c R e := rfl
theorem vxArr_apply (c : Dev nD) (R : Fin 4096) (e : Fin 2048) : vxArr V c (ix2 R e) = vxAt V c R e := rfl

/-- Region 0 leaves the scaled queries. -/
theorem arr0_9 (c : Dev nD) : (dat0 V c).arrAt 9 cfg0.N = qArr V c := by
  refine (dat0 V c).arrAt_eq_of_covers 9 _ (by decide +kernel) fun t hf y => ?_
  blk_simp
  rw [after0_9]
  frame_out
  obtain ⟨r, e, rfl⟩ : ∃ (r : Fin 512) (e : Fin 1024), y = (ix2 r e : S512x1024.Idx) := ⟨y 0, y 1, by funext i; fin_cases i <;> rfl⟩
  obtain ⟨R, hR, E⟩ : ∃ R : Fin 4096, R.val = t.val * 512 + r.val ∧
      ((View.whole main_v9_0).slice (win0_9.rect t)).emb (ix2 r e : S512x1024.Idx) = (ix2 R e : S4096x1024.Idx) := by
    refine ⟨⟨t.val * 512 + r.val, by have := t.isLt; change t.val < 8 at this; omega⟩, rfl, ?_⟩
    blk_ext [(idx0 t).2.1]
  rw [E, pay4_apply, qArr_apply]
  unfold qAt
  simp only [blockRow V c t r R hR, iblk0_1_apply, iblk0_4_apply]

/-- Region 0 leaves the keys. -/
theorem arr0_10 (c : Dev nD) : (dat0 V c).arrAt 10 cfg0.N = kArr V c := by
  refine (dat0 V c).arrAt_eq_of_covers 10 _ (by decide +kernel) fun t hf y => ?_
  blk_simp
  rw [after0_10]
  unfold out0_10 k0_pay25
  frame_out
  obtain ⟨r, e, rfl⟩ : ∃ (r : Fin 512) (e : Fin 1024), y = (ix2 r e : S512x1024.Idx) := ⟨y 0, y 1, by funext i; fin_cases i <;> rfl⟩
  obtain ⟨R, hR, E⟩ : ∃ R : Fin 4096, R.val = t.val * 512 + r.val ∧
      ((View.whole main_v9_1).slice (win0_10.rect t)).emb (ix2 r e : S512x1024.Idx) = (ix2 R e : S4096x1024.Idx) := by
    refine ⟨⟨t.val * 512 + r.val, by have := t.isLt; change t.val < 8 at this; omega⟩, rfl, ?_⟩
    blk_ext [(idx0 t).2.2.1]
  rw [E, pay5_apply, kArr_apply]
  unfold kAt
  simp only [blockRow V c t r R hR, iblk0_2_apply, iblk0_5_apply]

/-- Region 0 leaves the values with their ones. -/
theorem arr0_11 (c : Dev nD) : (dat0 V c).arrAt 11 cfg0.N = vxArr V c := by
  refine (dat0 V c).arrAt_eq_of_covers 11 _ (by decide +kernel) fun t hf y => ?_
  blk_simp
  rw [after0_11]
  obtain ⟨r, e, rfl⟩ : ∃ (r : Fin 512) (e : Fin 2048), y = (ix2 r e : S512x2048.Idx) := ⟨y 0, y 1, by funext i; fin_cases i <;> rfl⟩
  obtain ⟨R, hR, E⟩ : ∃ R : Fin 4096, R.val = t.val * 512 + r.val ∧
      ((View.whole main_v9_2).slice (win0_11.rect t)).emb (ix2 r e : S512x2048.Idx) = (ix2 R e : S4096x2048.Idx) := by
    refine ⟨⟨t.val * 512 + r.val, by have := t.isLt; change t.val < 8 at this; omega⟩, rfl, ?_⟩
    blk_ext [(idx0 t).2.2.2]
  rw [E, out0_11_apply, vxArr_apply]
  unfold vxAt vAt
  simp only [blockRow V c t r R hR, iblk0_3_apply, iblk0_6_apply]

  unfold k0_pay7
  pointwise

end Cert.KernelIdeal.Value

end
-- ==== Proof.Region1.lean ====
module

public import proofs.«01_k».proof.Proof.Gen.KernelIdeal.Frame
public import proofs.«01_k».proof.Proof.Spec
public import Idealize.ShloMosaic.Lib.Pointwise
public import Idealize.ShloMosaic.Lib.Pipeline.ValueKit

@[expose] public section

noncomputable section

/-! What the second kernel (neighbour selection and attention) leaves in its output array, as a function of the
arrays that it finds. -/

namespace Cert.KernelIdeal.Value

open Cert.KernelIdeal Cert.KernelIdeal.Gen Cert.Spec
open Idealize.ShloMosaic Idealize.ShloMosaic.TcCoe Idealize.SL.Sem

variable (V : (c : Dev nD) → (b : Ref sig .tc) → Buf (Elt Ideal) ((c : Thread nD τ).loc b))

theorem inf_word : Ideal.ofBits .f32 2139095040#32 = ⊤ := by
  simp [Ideal.ofBits, Ideal.ieee]

/-- One round of the selection, on a whole block of rows. -/
def rndV (w : FVec Ideal S512x2048 .f32) : FVec Ideal S512x2048 .f32 :=
  select (cmpf .oeq w (broadcastTo S512x2048 (shapeCast S512x1 (multiReduction .minimumf [1] S512 w 0x7F800000#32 reduces_S512x2048_S512 (.inl rfl) rfl) shapeCasts_S512_S512x1) broadcasts_S512x1_S512x2048))
    (broadcast S512x2048 (Scalar.ofBits (F := Ideal) .f32 0x7F800000#32)) w

theorem rndV_fold (w : FVec Ideal S512x2048 .f32) :
    select (cmpf .oeq w (broadcastTo S512x2048 (shapeCast S512x1 (multiReduction .minimumf [1] S512 w 0x7F800000#32 reduces_S512x2048_S512 (.inl rfl) rfl) shapeCasts_S512_S512x1) broadcasts_S512x1_S512x2048))
    (broadcast S512x2048 (Scalar.ofBits (F := Ideal) .f32 0x7F800000#32)) w = rndV w := rfl

theorem rndV_apply (w : FVec Ideal S512x2048 .f32) (r : Fin 512) (j : Fin 2048) :
    rndV w (ix2 r j) = rnd (fun k => w (ix2 r k)) j := by
  unfold rndV rnd
  pointwise
  rw [inf_word]
  rfl

theorem rndV_row (w : FVec Ideal S512x2048 .f32) (r : Fin 512) :
    (fun j => rndV w (ix2 r j)) = rnd (fun k => w (ix2 r k)) := funext fun j => rndV_apply w r j

/-- The block of distances with the queries' own taken away. -/
def work0V (a : BitVec 32) (d : FVec Ideal S512x2048 .f32) : FVec Ideal S512x2048 .f32 :=
  select (cmpi .eq (iota .tc S512x2048 32 [1] iota_S512x2048_d1_w32)
    (addi (iota .tc S512x2048 32 [0] iota_S512x2048_d0_w32) (broadcast S512x2048 (Scalar.muli a 512#32))))
    (broadcast S512x2048 (Scalar.ofBits (F := Ideal) .f32 0x7F800000#32)) d

theorem work0V_fold (a : BitVec 32) (d : FVec Ideal S512x2048 .f32) :
    select (cmpi .eq (iota .tc S512x2048 32 [1] iota_S512x2048_d1_w32)
    (addi (iota .tc S512x2048 32 [0] iota_S512x2048_d0_w32) (broadcast S512x2048 (Scalar.muli a 512#32))))
    (broadcast S512x2048 (Scalar.ofBits (F := Ideal) .f32 0x7F800000#32)) d = work0V a d := rfl

theorem work0V_apply (n : ℕ) (hn : n < 4) (d : FVec Ideal S512x2048 .f32) (r : Fin 512) (j R : Fin 2048) (hR : R.val = n * 512 + r.val) :
    work0V (BitVec.ofNat 32 n) d (ix2 r j) = work0 (fun k => d (ix2 r k)) R j := by
  have h : (IntOp.cmpi CmpIPredicate.eq (BitVec.ofNat 32 j.val) (IntOp.addi (BitVec.ofNat 32 r.val) (Scalar.muli (BitVec.ofNat 32 n) 512#32))) = if j = R then 1#1 else 0#1 := by
    have e : (IntOp.addi (BitVec.ofNat 32 r.val) (Scalar.muli (BitVec.ofNat 32 n) 512#32)) = BitVec.ofNat 32 R.val := by
      apply BitVec.eq_of_toNat_eq
      have := R.isLt
      simp [IntOp.addi, Scalar.muli, IntOp.muli]
      omega
    rw [e]
    have hi : (BitVec.ofNat 32 j.val = BitVec.ofNat 32 R.val) ↔ j = R := by
      constructor
      · intro h
        have h := congrArg BitVec.toNat h
        have := R.isLt
        have := j.isLt
        simp at h
        exact Fin.ext (by omega)
      · rintro rfl; rfl
    by_cases hj : j = R
    · rw [if_pos hj]; simp [IntOp.cmpi, hi.2 hj]
    · rw [if_neg hj]; simp only [IntOp.cmpi, beq_eq_false_iff_ne.2 (mt hi.1 hj)]; rfl
  unfold work0V work0
  pointwise
  rw [h, inf_word]
  by_cases hj : j = R
  · rw [if_pos hj, if_pos hj]; rfl
  · rw [if_neg hj, if_neg hj]; rfl

theorem pay6_eq (a : BitVec 32) (v0 : Ideal .f32) (v38 : FVec Ideal S512x2048 .f32) :
    k1_pay6 (F := Ideal) a v0 v38 = rndV (rndV (rndV (rndV (work0V a (k1_pay5 v0 v38))))) := by
  unfold k1_pay6
  rfl

theorem pay8_eq (w : FVec Ideal S512x2048 .f32) :
    k1_pay8 (F := Ideal) w (multiReduction .minimumf [1] S512 w 0x7F800000#32 reduces_S512x2048_S512 (.inl rfl) rfl)
      = rndV (rndV (rndV (rndV (rndV (rndV (rndV w)))))) := by
  unfold k1_pay8
  rfl

/-- The mask of a block, from its distances and the selection's last state. -/
def maskV (v4 : Ideal .f32) (d w : FVec Ideal S512x2048 .f32) : FVec Ideal S512x2048 .bf16 :=
  truncf .bf16 (select (cmpf .oeq w (broadcast S512x2048 (Scalar.ofBits (F := Ideal) .f32 0x7F800000#32)))
        (mulf d (broadcast S512x2048 (Scalar.subf (Scalar.ofBits (F := Ideal) .f32 0x00000000#32) v4)))
        (broadcast S512x2048 (Named.named κ "mask" 0xF149F2CA#32))) bitsLt_bf16_f32

theorem pay10_last (v4 : Ideal .f32) (d w : FVec Ideal S512x2048 .f32) :
    k1_pay10 (F := Ideal) v4 d w (cmpf .oeq w (broadcastTo S512x2048 (shapeCast S512x1 (multiReduction .minimumf [1] S512 w 0x7F800000#32 reduces_S512x2048_S512 (.inl rfl) rfl) shapeCasts_S512_S512x1) broadcasts_S512x1_S512x2048))
      (Scalar.ofBits (F := Ideal) .f32 0x7F800000#32) = maskV v4 d (rndV (rndV (rndV (rndV w)))) := by
  unfold k1_pay10 maskV
  rfl

theorem pay10_eq (a : BitVec 32) (v4 v0 : Ideal .f32) (v38 : FVec Ideal S512x2048 .f32) :
    k1_pay10 (F := Ideal) v4 (k1_pay5 v0 v38) (k1_pay8 (k1_pay6 a v0 v38) (k1_pay7 a v0 v38)) (k1_pay9 (k1_pay6 a v0 v38) (k1_pay7 a v0 v38))
      (Scalar.ofBits (F := Ideal) .f32 0x7F800000#32)
     = maskV v4 (k1_pay5 v0 v38) (rndV^[15] (work0V a (k1_pay5 v0 v38))) := by
  unfold k1_pay9 k1_pay7
  rw [pay8_eq, pay6_eq]
  generalize k1_pay5 (F := Ideal) v0 v38 = d
  refine (pay10_last v4 d _).trans ?_
  have e (x : FVec Ideal S512x2048 .f32) : rndV^[15] x = rndV (rndV (rndV (rndV (rndV (rndV (rndV (rndV (rndV (rndV (rndV (rndV (rndV (rndV (rndV x)))))))))))))) := by
    generalize rndV = f
    rfl
  rw [e]

theorem k1_pay2_apply (g : FVec Ideal S512x2048 .bf16) (q : Vec Ideal S1x512x64 .bf16) (k : Vec Ideal S1x2048x64 .bf16) (v : Vec Ideal S1x2048x128 .bf16)
    (r : Fin 512) (t : Fin 64) :
    k1_pay2 (F := Ideal) g q k v (ix3 0 r t)
      = headK (fun x => g (ix2 r x)) (fun y => q (ix3 0 r y)) (fun x y => k (ix3 0 x y)) (fun x => v (ix3 0 x ⟨t.val, by omega⟩)) (fun x => v (ix3 0 x 64)) := by
  unfold_payloads
  pointwise [dot_S512x64_S2048x64_S512x2048_1_1_0_0_n_n, dot_S512x2048_S2048x128_S512x128_1_0_0_1_n_n]
  rfl

theorem k1_pay5_apply (c : Ideal .f32) (p : Vec Ideal S1x512x64 .f32) (q : Vec Ideal S1x2048x64 .f32) (r : Fin 512) (j : Fin 2048) :
    k1_pay5 (F := Ideal) c (k1_pay4 (F := Ideal) c p q) (ix2 r j) = distK c (fun x => p (ix3 0 r x)) (fun x => q (ix3 0 j x)) := by
  unfold_payloads
  pointwise [dot_S512x64_S2048x64_S512x2048_1_1_0_0_n_n, dot_S1x64_S2048x64_S1x2048_1_1_0_0_n_n]
  rfl

theorem k1_pay3_apply (l : Ideal .f32) : k1_pay3 (F := Ideal) l = invTau l := by
  unfold_payloads
  pointwise
  rfl

theorem rndV_iter_row (m : ℕ) (w : FVec Ideal S512x2048 .f32) (r : Fin 512) :
    (fun j => rndV^[m] w (ix2 r j)) = rnd^[m] (fun k => w (ix2 r k)) := by
  induction m generalizing w with
  | zero => rfl
  | succ m ih => rw [Function.iterate_succ_apply, Function.iterate_succ_apply, ih, rndV_row]

theorem mask_apply (n : ℕ) (hn : n < 4) (l c : Ideal .f32) (p : Vec Ideal S1x512x64 .f32) (q : Vec Ideal S1x2048x64 .f32)
    (r : Fin 512) (j R : Fin 2048) (hR : R.val = n * 512 + r.val) :
    k1_pay10 (F := Ideal) (k1_pay3 (F := Ideal) l) (k1_pay5 (F := Ideal) c (k1_pay4 (F := Ideal) c p q))
      (k1_pay8 (k1_pay6 (BitVec.ofNat 32 n) c (k1_pay4 (F := Ideal) c p q)) (k1_pay7 (BitVec.ofNat 32 n) c (k1_pay4 (F := Ideal) c p q)))
      (k1_pay9 (k1_pay6 (BitVec.ofNat 32 n) c (k1_pay4 (F := Ideal) c p q)) (k1_pay7 (BitVec.ofNat 32 n) c (k1_pay4 (F := Ideal) c p q)))
      (FloatOps.ofBits FTy.f32 2139095040#32) (ix2 r j)
      = maskK l (fun j => distK c (fun x => p (ix3 0 r x)) (fun x => q (ix3 0 j x))) R j := by
  refine (congrFun (pay10_eq (BitVec.ofNat 32 n) (k1_pay3 (F := Ideal) l) c (k1_pay4 (F := Ideal) c p q)) _).trans ?_
  rw [k1_pay3_apply]
  have hd := fun j => k1_pay5_apply c p q r j
  generalize k1_pay5 (F := Ideal) c (k1_pay4 (F := Ideal) c p q) = d at hd
  have hw : (fun j => rndV^[15] (work0V (BitVec.ofNat 32 n) d) (ix2 r j)) = rnd^[15] (work0 (fun j => distK c (fun x => p (ix3 0 r x)) (fun x => q (ix3 0 j x))) R) := by
    rw [rndV_iter_row]
    congr 1
    funext j
    rw [work0V_apply n hn d r j R hR]
    simp only [hd]
  have hw := congrFun hw j
  generalize rndV^[15] (work0V (BitVec.ofNat 32 n) d) = w at hw
  have hm : (Named.named κ "mask" 0xF149F2CA#32 : Ideal .f32) = (⊥ : EReal) := IdealRules.named_const.ideal_named_scalar _ _ _ _ rfl
  unfold maskV
  pointwise
  rw [hw, hd, inf_word, hm]
  rfl

/-- The row of the mask that query `i` of batch entry `b` sees. -/
def maskAt (c : Dev nD) (b : Fin 2) (i : Fin 2048) : Fin 2048 → EReal :=
  maskK (V c main_v10 (ix1 0))
    (fun j => distK (V c main_arg2 (ix1 0)) (fun x => V c main_arg1 (ix3 b i x)) (fun x => V c main_arg1 (ix3 b j x))) i

/-- The attention output of query `i` of batch entry `b`, at column `e` (head `e / 64`). -/
def attnAt (c : Dev nD) (b : Fin 2) (i : Fin 2048) (e : Fin 1024) : EReal :=
  headK (maskAt V c b i)
    (fun y => V c main_v11 (ix3 b i ⟨e.val / 64 * 64 + y.val, by omega⟩))
    (fun x y => V c main_v12 (ix3 b x ⟨e.val / 64 * 64 + y.val, by omega⟩))
    (fun x => V c main_v13 (ix3 b x ⟨e.val / 64 * 128 + e.val % 64, by omega⟩))
    (fun x => V c main_v13 (ix3 b x ⟨e.val / 64 * 128 + 64, by omega⟩))

def attnArr (c : Dev nD) (i : S2x2048x1024.Idx) : EReal := attnAt V c (i 0) (i 1) (i 2)
theorem attnArr_apply (c : Dev nD) (b : Fin 2) (i : Fin 2048) (e : Fin 1024) : attnArr V c (ix3 b i e) = attnAt V c b i e := rfl

/-- One head's block, from what its three loads hold. -/
theorem head_piece (c : Dev nD) (b : Fin 2) (i : Fin 2048) (e : Fin 1024) (g : FVec Ideal S512x2048 .bf16) (q : Vec Ideal S1x512x64 .bf16)
    (k : Vec Ideal S1x2048x64 .bf16) (v : Vec Ideal S1x2048x128 .bf16) (r : Fin 512) (t : Fin 64) (h : ℕ) (hh : h < 16) (he : e.val = h * 64 + t.val)
    (hg : ∀ x, g (ix2 r x) = maskAt V c b i x)
    (hq : ∀ y : Fin 64, q (ix3 0 r y) = V c main_v11 (ix3 b i ⟨h * 64 + y.val, by omega⟩))
    (hk : ∀ (x : Fin 2048) (y : Fin 64), k (ix3 0 x y) = V c main_v12 (ix3 b x ⟨h * 64 + y.val, by omega⟩))
    (hv : ∀ (x : Fin 2048) (y : Fin 128), v (ix3 0 x y) = V c main_v13 (ix3 b x ⟨h * 128 + y.val, by omega⟩)) :
    k1_pay2 (F := Ideal) g q k v (ix3 0 r t) = attnAt V c b i e := by
  have h1 : h = e.val / 64 := by omega
  have h2 : t.val = e.val % 64 := by omega
  subst h1
  rw [k1_pay2_apply]
  unfold attnAt
  simp only [hg, hq, hk, hv, h2]
  rfl

theorem idx1 : ∀ t : Fin cfg1.N, (grid1.coords t 1).val = t.val % 4 ∧ win1_2.index t = ![t.val / 4, t.val % 4, 0] ∧ win1_3.index t = ![t.val / 4, 0, 0] ∧
    win1_4.index t = ![t.val / 4, t.val % 4, 0] ∧ win1_5.index t = ![t.val / 4, 0, 0] ∧ win1_6.index t = ![t.val / 4, 0, 0] ∧
    win1_7.index t = ![t.val / 4, t.val % 4, 0] :=
  (by decide +kernel : ∀ t : Fin grid1.N, (grid1.coords t 1).val = t.val % 4 ∧ win1_2.index t = ![t.val / 4, t.val % 4, 0] ∧ win1_3.index t = ![t.val / 4, 0, 0] ∧
    win1_4.index t = ![t.val / 4, t.val % 4, 0] ∧ win1_5.index t = ![t.val / 4, 0, 0] ∧ win1_6.index t = ![t.val / 4, 0, 0] ∧
    win1_7.index t = ![t.val / 4, t.val % 4, 0])

theorem s1_unique (x y : S1.Idx) : x = y := by
  funext a
  fin_cases a
  have hx := (x 0).isLt
  have hy := (y 0).isLt
  change (x 0).val < 1 at hx
  change (y 0).val < 1 at hy
  exact Fin.ext (show (x 0).val = (y 0).val by omega)

theorem iblk1_0_apply (c : Dev nD) (t : Fin cfg1.N) : iblk1 V c 0 t (ix1 0) = V c main_arg2 (ix1 0) := by
  blk_simp [iblk1]
  congr 1
  exact s1_unique _ _

theorem iblk1_1_apply (c : Dev nD) (t : Fin cfg1.N) : iblk1 V c 1 t (ix1 0) = V c main_v10 (ix1 0) := by
  blk_simp [iblk1]
  congr 1
  exact s1_unique _ _

theorem iblk1_2_apply (c : Dev nD) (t : Fin cfg1.N) (b : Fin 2) (i : Fin 2048) (r : Fin 512) (x : Fin 64)
    (hb : b.val = t.val / 4) (hi : i.val = t.val % 4 * 512 + r.val) : iblk1 V c 2 t (ix3 0 r x) = V c main_arg1 (ix3 b i x) := by
  blk_simp [iblk1]
  congr 1
  blk_ext [(idx1 t).2.1]

theorem iblk1_3_apply (c : Dev nD) (t : Fin cfg1.N) (b : Fin 2) (j : Fin 2048) (x : Fin 64)
    (hb : b.val = t.val / 4) : iblk1 V c 3 t (ix3 0 j x) = V c main_arg1 (ix3 b j x) := by
  blk_simp [iblk1]
  congr 1
  blk_ext [(idx1 t).2.2.1]

theorem iblk1_4_apply (c : Dev nD) (t : Fin cfg1.N) (b : Fin 2) (i : Fin 2048) (r : Fin 512) (x : Fin 1024)
    (hb : b.val = t.val / 4) (hi : i.val = t.val % 4 * 512 + r.val) : iblk1 V c 4 t (ix3 0 r x) = V c main_v11 (ix3 b i x) := by
  blk_simp [iblk1]
  congr 1
  blk_ext [(idx1 t).2.2.2.1]

theorem iblk1_5_apply (c : Dev nD) (t : Fin cfg1.N) (b : Fin 2) (j : Fin 2048) (x : Fin 1024)
    (hb : b.val = t.val / 4) : iblk1 V c 5 t (ix3 0 j x) = V c main_v12 (ix3 b j x) := by
  blk_simp [iblk1]
  congr 1
  blk_ext [(idx1 t).2.2.2.2.1]

theorem iblk1_6_apply (c : Dev nD) (t : Fin cfg1.N) (b : Fin 2) (j : Fin 2048) (x : Fin 2048)
    (hb : b.val = t.val / 4) : iblk1 V c 6 t (ix3 0 j x) = V c main_v13 (ix3 b j x) := by
  blk_simp [iblk1]
  congr 1
  blk_ext [(idx1 t).2.2.2.2.2.1]

theorem ld4 (c : Dev nD) (t : Fin cfg1.N) (b : Fin 2) (i : Fin 2048) (r : Fin 512) (hb : b.val = t.val / 4) (hi : i.val = t.val % 4 * 512 + r.val) (o : ℕ)
    (inb : ∀ a : Fin S1x512x1024.rank, (![0, 0, o] : Fin 3 → ℕ) a + (![1, 512, 64] : Fin 3 → ℕ) a ≤ S1x512x1024.size a) (y : Fin 64) (X : Fin 1024) (hX : X.val = o + y.val) :
    View.ld (S := S1x512x1024) (iblk1 V c 4 t) (Rect.unit ![0, 0, o] ![1, 512, 64] inb) (ix3 0 r y) = V c main_v11 (ix3 b i X) := by
  rw [← iblk1_4_apply V c t b i r X hb hi]
  refine congrArg (iblk1 V c 4 t) ?_
  funext a
  fin_cases a
  · exact Fin.ext (by simp [Rect.emb])
  · exact Fin.ext (by simp [Rect.emb])
  · exact Fin.ext (by simp [Rect.emb, hX])

theorem ld5 (c : Dev nD) (t : Fin cfg1.N) (b : Fin 2) (i : Fin 2048) (hb : b.val = t.val / 4) (o : ℕ)
    (inb : ∀ a : Fin S1x2048x1024.rank, (![0, 0, o] : Fin 3 → ℕ) a + (![1, 2048, 64] : Fin 3 → ℕ) a ≤ S1x2048x1024.size a) (y : Fin 64) (X : Fin 1024) (hX : X.val = o + y.val) :
    View.ld (S := S1x2048x1024) (iblk1 V c 5 t) (Rect.unit ![0, 0, o] ![1, 2048, 64] inb) (ix3 0 i y) = V c main_v12 (ix3 b i X) := by
  rw [← iblk1_5_apply V c t b i X hb]
  refine congrArg (iblk1 V c 5 t) ?_
  funext a
  fin_cases a
  · exact Fin.ext (by simp [Rect.emb])
  · exact Fin.ext (by simp [Rect.emb])
  · exact Fin.ext (by simp [Rect.emb, hX])

theorem ld6 (c : Dev nD) (t : Fin cfg1.N) (b : Fin 2) (i : Fin 2048) (hb : b.val = t.val / 4) (o : ℕ)
    (inb : ∀ a : Fin S1x2048x2048.rank, (![0, 0, o] : Fin 3 → ℕ) a + (![1, 2048, 128] : Fin 3 → ℕ) a ≤ S1x2048x2048.size a) (y : Fin 128) (X : Fin 2048) (hX : X.val = o + y.val) :
    View.ld (S := S1x2048x2048) (iblk1 V c 6 t) (Rect.unit ![0, 0, o] ![1, 2048, 128] inb) (ix3 0 i y) = V c main_v13 (ix3 b i X) := by
  rw [← iblk1_6_apply V c t b i X hb]
  refine congrArg (iblk1 V c 6 t) ?_
  funext a
  fin_cases a
  · exact Fin.ext (by simp [Rect.emb])
  · exact Fin.ext (by simp [Rect.emb])
  · exact Fin.ext (by simp [Rect.emb, hX])

set_option maxHeartbeats 4000000 in
/-- Region 1 leaves the attention output. -/
theorem arr1_7 (c : Dev nD) : (dat1 V c).arrAt 7 cfg1.N = attnArr V c := by
  refine (dat1 V c).arrAt_eq_of_covers 7 _ (by decide +kernel) fun t hf y => ?_
  blk_simp
  rw [after1_7]
  unfold outsAt1
  frame_out
  obtain ⟨r, e, rfl⟩ : ∃ (r : Fin 512) (e : Fin 1024), y = (ix3 0 r e : S1x512x1024.Idx) :=
    ⟨y 1, y 2, by funext i; fin_cases i; exact Fin.ext (by have := (y 0).isLt; change (y 0).val < 1 at this; change (y 0).val = 0; omega); rfl; rfl⟩
  have htl : t.val < 8 := t.isLt
  obtain ⟨b, hb⟩ : ∃ b : Fin 2, b.val = t.val / 4 := ⟨⟨t.val / 4, by omega⟩, rfl⟩
  obtain ⟨i, hi⟩ : ∃ i : Fin 2048, i.val = t.val % 4 * 512 + r.val := ⟨⟨t.val % 4 * 512 + r.val, by omega⟩, rfl⟩
  have E : ((View.whole main_v14).slice (win1_7.rect t)).emb (ix3 0 r e : S1x512x1024.Idx) = (ix3 b i e : S2x2048x1024.Idx) := by
    blk_ext [(idx1 t).2.2.2.2.2.2]
  rw [E, attnArr_apply]
  have hm : ∀ x, k1_pay10 (F := Ideal) (k1_pay3 (F := Ideal) (iblk1 V c 1 t (ix1 0))) (k1_pay5 (F := Ideal) (iblk1 V c 0 t (ix1 0)) (k1_pay4 (F := Ideal) (iblk1 V c 0 t (ix1 0)) (iblk1 V c 2 t) (iblk1 V c 3 t)))
      (k1_pay8 (k1_pay6 (BitVec.ofNat 32 (grid1.coords t 1).val) (iblk1 V c 0 t (ix1 0)) (k1_pay4 (F := Ideal) (iblk1 V c 0 t (ix1 0)) (iblk1 V c 2 t) (iblk1 V c 3 t)))
        (k1_pay7 (BitVec.ofNat 32 (grid1.coords t 1).val) (iblk1 V c 0 t (ix1 0)) (k1_pay4 (F := Ideal) (iblk1 V c 0 t (ix1 0)) (iblk1 V c 2 t) (iblk1 V c 3 t))))
      (k1_pay9 (k1_pay6 (BitVec.ofNat 32 (grid1.coords t 1).val) (iblk1 V c 0 t (ix1 0)) (k1_pay4 (F := Ideal) (iblk1 V c 0 t (ix1 0)) (iblk1 V c 2 t) (iblk1 V c 3 t)))
        (k1_pay7 (BitVec.ofNat 32 (grid1.coords t 1).val) (iblk1 V c 0 t (ix1 0)) (k1_pay4 (F := Ideal) (iblk1 V c 0 t (ix1 0)) (iblk1 V c 2 t) (iblk1 V c 3 t))))
      (FloatOps.ofBits FTy.f32 2139095040#32) (ix2 r x) = maskAt V c b i x := by
    intro x
    rw [mask_apply (grid1.coords t 1).val (by rw [(idx1 t).1]; omega) _ _ _ _ r x i (by rw [(idx1 t).1]; exact hi)]
    simp only [iblk1_0_apply, iblk1_1_apply, iblk1_2_apply V c t b i r _ hb hi, iblk1_3_apply V c t b _ _ hb]
    rfl
  have hs0 : ∀ h, View.ld (iblk1 V c 0 t) (Rect.unit ![0] ![1] inb_S1_S1_0) (Shape.Idx.first h) = iblk1 V c 0 t (ix1 0) :=
    fun h => congrArg (iblk1 V c 0 t) (s1_unique _ _)
  have hs1 : ∀ h, View.ld (iblk1 V c 1 t) (Rect.unit ![0] ![1] inb_S1_S1_0) (Shape.Idx.first h) = iblk1 V c 1 t (ix1 0) :=
    fun h => congrArg (iblk1 V c 1 t) (s1_unique _ _)
  simp only [hs0, hs1]
  clear hs0 hs1 E
  canon_tiles x h
  all_goals
    obtain ⟨e', rfl⟩ : ∃ e' : Fin 64, x = (ix3 0 r e' : S1x512x64.Idx) :=
      ⟨x 2, by funext i; fin_cases i; exact Fin.ext (by change (x 0).val = 0; omega); exact Fin.ext h1.symm; rfl⟩
  all_goals
    have hy : ((ix3 0 r e : S1x512x1024.Idx) 2).val = e.val := rfl
    have hx : ((ix3 0 r e' : S1x512x64.Idx) 2).val = e'.val := rfl
  · exact head_piece V c b i e _ _ _ _ r e' 15 (by omega) (by rw [hy, hx] at h2; omega) hm
      (fun y => ld4 V c t b i r hb hi 960 _ y ⟨15 * 64 + y.val, _⟩ rfl) (fun x y => ld5 V c t b x hb 960 _ y ⟨15 * 64 + y.val, _⟩ rfl)
      (fun x y => ld6 V c t b x hb 1920 _ y ⟨15 * 128 + y.val, _⟩ rfl)
  · exact head_piece V c b i e _ _ _ _ r e' 14 (by omega) (by rw [hy, hx] at h2; omega) hm
      (fun y => ld4 V c t b i r hb hi 896 _ y ⟨14 * 64 + y.val, _⟩ rfl) (fun x y => ld5 V c t b x hb 896 _ y ⟨14 * 64 + y.val, _⟩ rfl)
      (fun x y => ld6 V c t b x hb 1792 _ y ⟨14 * 128 + y.val, _⟩ rfl)
  · exact head_piece V c b i e _ _ _ _ r e' 13 (by omega) (by rw [hy, hx] at h2; omega) hm
      (fun y => ld4 V c t b i r hb hi 832 _ y ⟨13 * 64 + y.val, _⟩ rfl) (fun x y => ld5 V c t b x hb 832 _ y ⟨13 * 64 + y.val, _⟩ rfl)
      (fun x y => ld6 V c t b x hb 1664 _ y ⟨13 * 128 + y.val, _⟩ rfl)
  · exact head_piece V c b i e _ _ _ _ r e' 12 (by omega) (by rw [hy, hx] at h2; omega) hm
      (fun y => ld4 V c t b i r hb hi 768 _ y ⟨12 * 64 + y.val, _⟩ rfl) (fun x y => ld5 V c t b x hb 768 _ y ⟨12 * 64 + y.val, _⟩ rfl)
      (fun x y => ld6 V c t b x hb 1536 _ y ⟨12 * 128 + y.val, _⟩ rfl)
  · exact head_piece V c b i e _ _ _ _ r e' 11 (by omega) (by rw [hy, hx] at h2; omega) hm
      (fun y => ld4 V c t b i r hb hi 704 _ y ⟨11 * 64 + y.val, _⟩ rfl) (fun x y => ld5 V c t b x hb 704 _ y ⟨11 * 64 + y.val, _⟩ rfl)
      (fun x y => ld6 V c t b x hb 1408 _ y ⟨11 * 128 + y.val, _⟩ rfl)
  · exact head_piece V c b i e _ _ _ _ r e' 10 (by omega) (by rw [hy, hx] at h2; omega) hm
      (fun y => ld4 V c t b i r hb hi 640 _ y ⟨10 * 64 + y.val, _⟩ rfl) (fun x y => ld5 V c t b x hb 640 _ y ⟨10 * 64 + y.val, _⟩ rfl)
      (fun x y => ld6 V c t b x hb 1280 _ y ⟨10 * 128 + y.val, _⟩ rfl)
  · exact head_piece V c b i e _ _ _ _ r e' 9 (by omega) (by rw [hy, hx] at h2; omega) hm
      (fun y => ld4 V c t b i r hb hi 576 _ y ⟨9 * 64 + y.val, _⟩ rfl) (fun x y => ld5 V c t b x hb 576 _ y ⟨9 * 64 + y.val, _⟩ rfl)
      (fun x y => ld6 V c t b x hb 1152 _ y ⟨9 * 128 + y.val, _⟩ rfl)
  · exact head_piece V c b i e _ _ _ _ r e' 8 (by omega) (by rw [hy, hx] at h2; omega) hm
      (fun y => ld4 V c t b i r hb hi 512 _ y ⟨8 * 64 + y.val, _⟩ rfl) (fun x y => ld5 V c t b x hb 512 _ y ⟨8 * 64 + y.val, _⟩ rfl)
      (fun x y => ld6 V c t b x hb 1024 _ y ⟨8 * 128 + y.val, _⟩ rfl)
  · exact head_piece V c b i e _ _ _ _ r e' 7 (by omega) (by rw [hy, hx] at h2; omega) hm
      (fun y => ld4 V c t b i r hb hi 448 _ y ⟨7 * 64 + y.val, _⟩ rfl) (fun x y => ld5 V c t b x hb 448 _ y ⟨7 * 64 + y.val, _⟩ rfl)
      (fun x y => ld6 V c t b x hb 896 _ y ⟨7 * 128 + y.val, _⟩ rfl)
  · exact head_piece V c b i e _ _ _ _ r e' 6 (by omega) (by rw [hy, hx] at h2; omega) hm
      (fun y => ld4 V c t b i r hb hi 384 _ y ⟨6 * 64 + y.val, _⟩ rfl) (fun x y => ld5 V c t b x hb 384 _ y ⟨6 * 64 + y.val, _⟩ rfl)
      (fun x y => ld6 V c t b x hb 768 _ y ⟨6 * 128 + y.val, _⟩ rfl)
  · exact head_piece V c b i e _ _ _ _ r e' 5 (by omega) (by rw [hy, hx] at h2; omega) hm
      (fun y => ld4 V c t b i r hb hi 320 _ y ⟨5 * 64 + y.val, _⟩ rfl) (fun x y => ld5 V c t b x hb 320 _ y ⟨5 * 64 + y.val, _⟩ rfl)
      (fun x y => ld6 V c t b x hb 640 _ y ⟨5 * 128 + y.val, _⟩ rfl)
  · exact head_piece V c b i e _ _ _ _ r e' 4 (by omega) (by rw [hy, hx] at h2; omega) hm
      (fun y => ld4 V c t b i r hb hi 256 _ y ⟨4 * 64 + y.val, _⟩ rfl) (fun x y => ld5 V c t b x hb 256 _ y ⟨4 * 64 + y.val, _⟩ rfl)
      (fun x y => ld6 V c t b x hb 512 _ y ⟨4 * 128 + y.val, _⟩ rfl)
  · exact head_piece V c b i e _ _ _ _ r e' 3 (by omega) (by rw [hy, hx] at h2; omega) hm
      (fun y => ld4 V c t b i r hb hi 192 _ y ⟨3 * 64 + y.val, _⟩ rfl) (fun x y => ld5 V c t b x hb 192 _ y ⟨3 * 64 + y.val, _⟩ rfl)
      (fun x y => ld6 V c t b x hb 384 _ y ⟨3 * 128 + y.val, _⟩ rfl)
  · exact head_piece V c b i e _ _ _ _ r e' 2 (by omega) (by rw [hy, hx] at h2; omega) hm
      (fun y => ld4 V c t b i r hb hi 128 _ y ⟨2 * 64 + y.val, _⟩ rfl) (fun x y => ld5 V c t b x hb 128 _ y ⟨2 * 64 + y.val, _⟩ rfl)
      (fun x y => ld6 V c t b x hb 256 _ y ⟨2 * 128 + y.val, _⟩ rfl)
  · exact head_piece V c b i e _ _ _ _ r e' 1 (by omega) (by rw [hy, hx] at h2; omega) hm
      (fun y => ld4 V c t b i r hb hi 64 _ y ⟨1 * 64 + y.val, _⟩ rfl) (fun x y => ld5 V c t b x hb 64 _ y ⟨1 * 64 + y.val, _⟩ rfl)
      (fun x y => ld6 V c t b x hb 128 _ y ⟨1 * 128 + y.val, _⟩ rfl)
  · exact head_piece V c b i e _ _ _ _ r e' 0 (by omega) (by rw [hy, hx] at h2; omega) hm
      (fun y => ld4 V c t b i r hb hi 0 _ y ⟨0 * 64 + y.val, _⟩ rfl) (fun x y => ld5 V c t b x hb 0 _ y ⟨0 * 64 + y.val, _⟩ rfl)
      (fun x y => ld6 V c t b x hb 0 _ y ⟨0 * 128 + y.val, _⟩ rfl)

end Cert.KernelIdeal.Value

end
-- ==== Proof.Region2.lean ====
module

public import proofs.«01_k».proof.Proof.Gen.KernelIdeal.Frame
public import proofs.«01_k».proof.Proof.Spec
public import Idealize.ShloMosaic.Lib.Pointwise
public import Idealize.ShloMosaic.Lib.Pipeline.ValueKit

@[expose] public section

noncomputable section

/-! What the third kernel (output projection, residual sums, second layer normalisation and the GELU network) leaves in
its output array, as a function of the arrays that it finds. -/

namespace Cert.KernelIdeal.Value

open Cert.KernelIdeal Cert.KernelIdeal.Gen Cert.Spec
open Idealize.ShloMosaic Idealize.ShloMosaic.TcCoe Idealize.SL.Sem

variable (V : (c : Dev nD) → (b : Ref sig .tc) → Buf (Elt Ideal) ((c : Thread nD τ).loc b))

theorem k2_pay2_apply (x : Vec Ideal S512x1024 .f32) (a : Vec Ideal S512x1024 .bf16) (w : Vec Ideal S1024x1024 .bf16)
    (b : Vec Ideal S1x1024 .f32) (r : Fin 512) (t : Fin 1024) :
    k2_pay2 (F := Ideal) x a w b (ix2 r t) = x (ix2 r t) + ∑ k, a (ix2 r k) * w (ix2 t k) + b (ix2 0 t) := by
  unfold_payloads
  pointwise [dot_S512x1024_S1024x1024_S512x1024_1_1_0_0_n_n]

theorem k2_pay3_apply (x : Vec Ideal S512x1024 .f32) (a : Vec Ideal S512x1024 .bf16) (w : Vec Ideal S1024x1024 .bf16)
    (b g2 b2 : Vec Ideal S1x1024 .f32) (r : Fin 512) (t : Fin 1024) :
    k2_pay3 (F := Ideal) x a w b g2 b2 (ix2 r t)
      = lnK (fun k => k2_pay2 (F := Ideal) x a w b (ix2 r k)) (fun k => g2 (ix2 0 k)) (fun k => b2 (ix2 0 k)) t := by
  unfold k2_pay3
  generalize k2_pay2 (F := Ideal) x a w b = z
  pointwise
  rfl

theorem k2_pay1_apply (x1 : FVec Ideal S512x1024 .f32) (a : FVec Ideal S512x1024 .bf16) (w1 : FVec Ideal S4096x1024 .bf16)
    (b1 : Vec Ideal S1x4096 .f32) (w2 : Vec Ideal S1024x4096 .bf16) (b2 : Vec Ideal S1x1024 .f32) (r : Fin 512) (t : Fin 1024) :
    k2_pay1 (F := Ideal) x1 a (k2_pay4 (F := Ideal) w1) b1 w2 b2 (ix2 r t)
      = x1 (ix2 r t) + ∑ j : Fin 4096, geluK (lin (fun k => a (ix2 r k)) (fun k => w1 (ix2 j k)) (b1 (ix2 0 j))) * w2 (ix2 t j) + b2 (ix2 0 t) := by
  unfold_payloads
  pointwise [dot_S512x1024_S4096x1024_S512x4096_1_1_0_0_n_n, dot_S512x4096_S1024x4096_S512x1024_1_1_0_0_n_n]
  rfl

theorem idx2 : ∀ t : Fin cfg2.N, win2_0.index t = ![t.val, 0] ∧ win2_1.index t = ![t.val, 0] ∧ win2_10.index t = ![t.val, 0] :=
  (by decide +kernel : ∀ t : Fin grid2.N, win2_0.index t = ![t.val, 0] ∧ win2_1.index t = ![t.val, 0] ∧ win2_10.index t = ![t.val, 0])

theorem iblk2_0_apply (c : Dev nD) (t : Fin cfg2.N) (r : Fin 512) (k : Fin 1024) (R : Fin 4096) (hR : R.val = t.val * 512 + r.val) :
    iblk2 V c 0 t (ix2 r k) = V c main_v15 (ix2 R k) := by
  blk_simp [iblk2]
  congr 1
  blk_ext [(idx2 t).1]

theorem iblk2_1_apply (c : Dev nD) (t : Fin cfg2.N) (r : Fin 512) (k : Fin 1024) (R : Fin 4096) (hR : R.val = t.val * 512 + r.val) :
    iblk2 V c 1 t (ix2 r k) = V c main_v0 (ix2 R k) := by
  blk_simp [iblk2]
  congr 1
  blk_ext [(idx2 t).2.1]

theorem iblk2_2_apply (c : Dev nD) (t : Fin cfg2.N) (r : Fin 1024) (k : Fin 1024) : iblk2 V c 2 t (ix2 r k) = V c main_v16 (ix2 r k) := by
  blk_simp [iblk2]
  congr 1
  blk_ext [(show win2_2.index t = ![0, 0] from rfl)]

theorem iblk2_6_apply (c : Dev nD) (t : Fin cfg2.N) (r : Fin 4096) (k : Fin 1024) : iblk2 V c 6 t (ix2 r k) = V c main_v20 (ix2 r k) := by
  blk_simp [iblk2]
  congr 1
  blk_ext [(show win2_6.index t = ![0, 0] from rfl)]

theorem iblk2_8_apply (c : Dev nD) (t : Fin cfg2.N) (r : Fin 1024) (k : Fin 4096) : iblk2 V c 8 t (ix2 r k) = V c main_v22 (ix2 r k) := by
  blk_simp [iblk2]
  congr 1
  blk_ext [(show win2_8.index t = ![0, 0] from rfl)]

theorem iblk2_3_apply (c : Dev nD) (t : Fin cfg2.N) (k : Fin 1024) : iblk2 V c 3 t (ix2 0 k) = V c main_v17 (ix2 0 k) := by
  blk_simp [iblk2]
  congr 1
  blk_ext [(show win2_3.index t = ![0, 0] from rfl)]

theorem iblk2_4_apply (c : Dev nD) (t : Fin cfg2.N) (k : Fin 1024) : iblk2 V c 4 t (ix2 0 k) = V c main_v18 (ix2 0 k) := by
  blk_simp [iblk2]
  congr 1
  blk_ext [(show win2_4.index t = ![0, 0] from rfl)]

theorem iblk2_5_apply (c : Dev nD) (t : Fin cfg2.N) (k : Fin 1024) : iblk2 V c 5 t (ix2 0 k) = V c main_v19 (ix2 0 k) := by
  blk_simp [iblk2]
  congr 1
  blk_ext [(show win2_5.index t = ![0, 0] from rfl)]

theorem iblk2_7_apply (c : Dev nD) (t : Fin cfg2.N) (k : Fin 4096) : iblk2 V c 7 t (ix2 0 k) = V c main_v21 (ix2 0 k) := by
  blk_simp [iblk2]
  congr 1
  blk_ext [(show win2_7.index t = ![0, 0] from rfl)]

theorem iblk2_9_apply (c : Dev nD) (t : Fin cfg2.N) (k : Fin 1024) : iblk2 V c 9 t (ix2 0 k) = V c main_v23 (ix2 0 k) := by
  blk_simp [iblk2]
  congr 1
  blk_ext [(show win2_9.index t = ![0, 0] from rfl)]

/-- The first residual sum, of row `R`. -/
def x1At (c : Dev nD) (R : Fin 4096) (t : Fin 1024) : EReal :=
  res (V c main_v0 (ix2 R t)) (fun k : Fin 1024 => V c main_v15 (ix2 R k)) (fun k => V c main_v16 (ix2 t k)) (V c main_v17 (ix2 0 t))

/-- The result, of row `R`. -/
def outAt (c : Dev nD) (R : Fin 4096) (t : Fin 1024) : EReal :=
  res (x1At V c R t) (fun j : Fin 4096 =>
      geluK (lin (lnK (x1At V c R) (fun k => V c main_v18 (ix2 0 k)) (fun k => V c main_v19 (ix2 0 k)))
        (fun k => V c main_v20 (ix2 j k)) (V c main_v21 (ix2 0 j))))
    (fun j => V c main_v22 (ix2 t j)) (V c main_v23 (ix2 0 t))

def outArr (c : Dev nD) (i : S4096x1024.Idx) : EReal := outAt V c (i 0) (i 1)
theorem outArr_apply (c : Dev nD) (R : Fin 4096) (e : Fin 1024) : outArr V c (ix2 R e) = outAt V c R e := rfl

/-- Region 2 leaves the result. -/
theorem arr2_10 (c : Dev nD) : (dat2 V c).arrAt 10 cfg2.N = outArr V c := by
  refine (dat2 V c).arrAt_eq_of_covers 10 _ (by decide +kernel) fun t hf y => ?_
  blk_simp
  rw [after2_10]
  frame_out
  obtain ⟨r, e, rfl⟩ : ∃ (r : Fin 512) (e : Fin 1024), y = (ix2 r e : S512x1024.Idx) := ⟨y 0, y 1, by funext i; fin_cases i <;> rfl⟩
  obtain ⟨R, hR, E⟩ : ∃ R : Fin 4096, R.val = t.val * 512 + r.val ∧
      ((View.whole main_v24).slice (win2_10.rect t)).emb (ix2 r e : S512x1024.Idx) = (ix2 R e : S4096x1024.Idx) := by
    refine ⟨⟨t.val * 512 + r.val, by have := t.isLt; change t.val < 8 at this; omega⟩, rfl, ?_⟩
    blk_ext [(idx2 t).2.2]
  rw [E, k2_pay1_apply, outArr_apply]
  have hx (k : Fin 1024) : k2_pay2 (F := Ideal) (iblk2 V c 1 t) (iblk2 V c 0 t) (iblk2 V c 2 t) (iblk2 V c 3 t) (ix2 r k) = x1At V c R k := by
    rw [k2_pay2_apply]
    simp only [iblk2_0_apply V c t r _ R hR, iblk2_1_apply V c t r _ R hR, iblk2_2_apply, iblk2_3_apply]
    rfl
  simp only [k2_pay3_apply, hx, iblk2_4_apply, iblk2_5_apply, iblk2_6_apply, iblk2_7_apply, iblk2_8_apply, iblk2_9_apply]
  rfl

end Cert.KernelIdeal.Value

end
-- ==== Proof.ValueRun.lean ====
module

public import proofs.«01_k».proof.Proof.Region0
public import proofs.«01_k».proof.Proof.Region1
public import proofs.«01_k».proof.Proof.Region2
public import proofs.«01_k».proof.Proof.Model
public import Idealize.ShloMosaic.Lib.Claim

@[expose] public section

noncomputable section

/-! What the kernel program's result array holds at the end of a run: the host stretches (reshapes and casts) between
the three kernels are read, and the three kernels' arrays are chained into one formula over the argument arrays. -/

namespace Cert.KernelIdeal.Value

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

theorem W1_v0 (c : Dev nD) (b : Fin 2) (n : Fin 2048) (R : Fin 4096) (k : Fin 1024) (hR : R.val = b.val * 2048 + n.val) : W1 m ρ c (Proc.devRef .tc main_v0) (ix2 R k) = m ((c.tc : Thread nD τ).loc main_arg0) (ix3 b n k) := by
  change StableHlo.after hostOps0 (W0 m ρ c) (Proc.devRef .tc main_v0) (ix2 R k) = _
  after_results
  pointwise
  have h1 : (⟨R.val / 2048, by omega⟩ : Fin 2) = b := Fin.ext (by change R.val / 2048 = b.val; omega)
  have h2 : (⟨R.val % 2048, by omega⟩ : Fin 2048) = n := Fin.ext (by change R.val % 2048 = n.val; omega)
  rw [h1, h2]

theorem W1_v1 (c : Dev nD) (r : Fin 1024) (k : Fin 1024) : W1 m ρ c (Proc.devRef .tc main_v1) (ix2 r k) = m ((c.tc : Thread nD τ).loc main_arg3) (ix2 r k) := by
  change StableHlo.after hostOps0 (W0 m ρ c) (Proc.devRef .tc main_v1) (ix2 r k) = _
  after_results
  pointwise

theorem W1_v2 (c : Dev nD) (r : Fin 1024) (k : Fin 1024) : W1 m ρ c (Proc.devRef .tc main_v2) (ix2 r k) = m ((c.tc : Thread nD τ).loc main_arg5) (ix2 r k) := by
  change StableHlo.after hostOps0 (W0 m ρ c) (Proc.devRef .tc main_v2) (ix2 r k) = _
  after_results
  pointwise

theorem W1_v3 (c : Dev nD) (r : Fin 1024) (k : Fin 1024) : W1 m ρ c (Proc.devRef .tc main_v3) (ix2 r k) = m ((c.tc : Thread nD τ).loc main_arg7) (ix2 r k) := by
  change StableHlo.after hostOps0 (W0 m ρ c) (Proc.devRef .tc main_v3) (ix2 r k) = _
  after_results
  pointwise

theorem W1_v4 (c : Dev nD) (k : Fin 1024) : W1 m ρ c (Proc.devRef .tc main_v4) (ix2 0 k) = m ((c.tc : Thread nD τ).loc main_arg4) (ix1 k) := by
  change StableHlo.after hostOps0 (W0 m ρ c) (Proc.devRef .tc main_v4) (ix2 0 k) = _
  after_results
  pointwise

theorem W1_v5 (c : Dev nD) (k : Fin 1024) : W1 m ρ c (Proc.devRef .tc main_v5) (ix2 0 k) = m ((c.tc : Thread nD τ).loc main_arg6) (ix1 k) := by
  change StableHlo.after hostOps0 (W0 m ρ c) (Proc.devRef .tc main_v5) (ix2 0 k) = _
  after_results
  pointwise

theorem W1_v6 (c : Dev nD) (k : Fin 1024) : W1 m ρ c (Proc.devRef .tc main_v6) (ix2 0 k) = m ((c.tc : Thread nD τ).loc main_arg8) (ix1 k) := by
  change StableHlo.after hostOps0 (W0 m ρ c) (Proc.devRef .tc main_v6) (ix2 0 k) = _
  after_results
  pointwise

theorem W1_v7 (c : Dev nD) (k : Fin 1024) : W1 m ρ c (Proc.devRef .tc main_v7) (ix2 0 k) = m ((c.tc : Thread nD τ).loc main_arg15) (ix1 k) := by
  change StableHlo.after hostOps0 (W0 m ρ c) (Proc.devRef .tc main_v7) (ix2 0 k) = _
  after_results
  pointwise

theorem W1_v8 (c : Dev nD) (k : Fin 1024) : W1 m ρ c (Proc.devRef .tc main_v8) (ix2 0 k) = m ((c.tc : Thread nD τ).loc main_arg16) (ix1 k) := by
  change StableHlo.after hostOps0 (W0 m ρ c) (Proc.devRef .tc main_v8) (ix2 0 k) = _
  after_results
  pointwise

theorem W3_v10 (c : Dev nD)  : W3 m ρ c (Proc.devRef .tc main_v10) (ix1 0) = m ((c.tc : Thread nD τ).loc main_arg19) ix0 := by
  change StableHlo.after hostOps1 (W2 m ρ c) (Proc.devRef .tc main_v10) (ix1 0) = _
  after_results
  pointwise
  rw [W2_args m ρ c main_arg19 (by decide)]

theorem W3_v11 (c : Dev nD) (b : Fin 2) (n : Fin 2048) (R : Fin 4096) (k : Fin 1024) (hR : R.val = b.val * 2048 + n.val) : W3 m ρ c (Proc.devRef .tc main_v11) (ix3 b n k) = W2 m ρ c (Proc.devRef .tc main_v9_0) (ix2 R k) := by
  change StableHlo.after hostOps1 (W2 m ρ c) (Proc.devRef .tc main_v11) (ix3 b n k) = _
  after_results
  pointwise
  have h1 : (⟨b.val * 2048 + n.val, by omega⟩ : Fin 4096) = R := Fin.ext hR.symm
  rw [h1]

theorem W3_v12 (c : Dev nD) (b : Fin 2) (n : Fin 2048) (R : Fin 4096) (k : Fin 1024) (hR : R.val = b.val * 2048 + n.val) : W3 m ρ c (Proc.devRef .tc main_v12) (ix3 b n k) = W2 m ρ c (Proc.devRef .tc main_v9_1) (ix2 R k) := by
  change StableHlo.after hostOps1 (W2 m ρ c) (Proc.devRef .tc main_v12) (ix3 b n k) = _
  after_results
  pointwise
  have h1 : (⟨b.val * 2048 + n.val, by omega⟩ : Fin 4096) = R := Fin.ext hR.symm
  rw [h1]

theorem W3_v13 (c : Dev nD) (b : Fin 2) (n : Fin 2048) (R : Fin 4096) (k : Fin 2048) (hR : R.val = b.val * 2048 + n.val) : W3 m ρ c (Proc.devRef .tc main_v13) (ix3 b n k) = W2 m ρ c (Proc.devRef .tc main_v9_2) (ix2 R k) := by
  change StableHlo.after hostOps1 (W2 m ρ c) (Proc.devRef .tc main_v13) (ix3 b n k) = _
  after_results
  pointwise
  have h1 : (⟨b.val * 2048 + n.val, by omega⟩ : Fin 4096) = R := Fin.ext hR.symm
  rw [h1]

theorem W5_v15 (c : Dev nD) (b : Fin 2) (n : Fin 2048) (R : Fin 4096) (k : Fin 1024) (hR : R.val = b.val * 2048 + n.val) : W5 m ρ c (Proc.devRef .tc main_v15) (ix2 R k) = W4 m ρ c (Proc.devRef .tc main_v14) (ix3 b n k) := by
  change StableHlo.after hostOps2 (W4 m ρ c) (Proc.devRef .tc main_v15) (ix2 R k) = _
  after_results
  pointwise
  have h1 : (⟨R.val / 2048, by omega⟩ : Fin 2) = b := Fin.ext (by change R.val / 2048 = b.val; omega)
  have h2 : (⟨R.val % 2048, by omega⟩ : Fin 2048) = n := Fin.ext (by change R.val % 2048 = n.val; omega)
  rw [h1, h2]

theorem W5_v16 (c : Dev nD) (r : Fin 1024) (k : Fin 1024) : W5 m ρ c (Proc.devRef .tc main_v16) (ix2 r k) = m ((c.tc : Thread nD τ).loc main_arg9) (ix2 r k) := by
  change StableHlo.after hostOps2 (W4 m ρ c) (Proc.devRef .tc main_v16) (ix2 r k) = _
  after_results
  pointwise
  rw [W4_args m ρ c main_arg9 (by decide)]

theorem W5_v17 (c : Dev nD) (k : Fin 1024) : W5 m ρ c (Proc.devRef .tc main_v17) (ix2 0 k) = m ((c.tc : Thread nD τ).loc main_arg10) (ix1 k) := by
  change StableHlo.after hostOps2 (W4 m ρ c) (Proc.devRef .tc main_v17) (ix2 0 k) = _
  after_results
  pointwise
  rw [W4_args m ρ c main_arg10 (by decide)]

theorem W5_v18 (c : Dev nD) (k : Fin 1024) : W5 m ρ c (Proc.devRef .tc main_v18) (ix2 0 k) = m ((c.tc : Thread nD τ).loc main_arg17) (ix1 k) := by
  change StableHlo.after hostOps2 (W4 m ρ c) (Proc.devRef .tc main_v18) (ix2 0 k) = _
  after_results
  pointwise
  rw [W4_args m ρ c main_arg17 (by decide)]

theorem W5_v19 (c : Dev nD) (k : Fin 1024) : W5 m ρ c (Proc.devRef .tc main_v19) (ix2 0 k) = m ((c.tc : Thread nD τ).loc main_arg18) (ix1 k) := by
  change StableHlo.after hostOps2 (W4 m ρ c) (Proc.devRef .tc main_v19) (ix2 0 k) = _
  after_results
  pointwise
  rw [W4_args m ρ c main_arg18 (by decide)]

theorem W5_v20 (c : Dev nD) (r : Fin 4096) (k : Fin 1024) : W5 m ρ c (Proc.devRef .tc main_v20) (ix2 r k) = m ((c.tc : Thread nD τ).loc main_arg11) (ix2 r k) := by
  change StableHlo.after hostOps2 (W4 m ρ c) (Proc.devRef .tc main_v20) (ix2 r k) = _
  after_results
  pointwise
  rw [W4_args m ρ c main_arg11 (by decide)]

theorem W5_v21 (c : Dev nD) (k : Fin 4096) : W5 m ρ c (Proc.devRef .tc main_v21) (ix2 0 k) = m ((c.tc : Thread nD τ).loc main_arg12) (ix1 k) := by
  change StableHlo.after hostOps2 (W4 m ρ c) (Proc.devRef .tc main_v21) (ix2 0 k) = _
  after_results
  pointwise
  rw [W4_args m ρ c main_arg12 (by decide)]

theorem W5_v22 (c : Dev nD) (r : Fin 1024) (k : Fin 4096) : W5 m ρ c (Proc.devRef .tc main_v22) (ix2 r k) = m ((c.tc : Thread nD τ).loc main_arg13) (ix2 r k) := by
  change StableHlo.after hostOps2 (W4 m ρ c) (Proc.devRef .tc main_v22) (ix2 r k) = _
  after_results
  pointwise
  rw [W4_args m ρ c main_arg13 (by decide)]

theorem W5_v23 (c : Dev nD) (k : Fin 1024) : W5 m ρ c (Proc.devRef .tc main_v23) (ix2 0 k) = m ((c.tc : Thread nD τ).loc main_arg14) (ix1 k) := by
  change StableHlo.after hostOps2 (W4 m ρ c) (Proc.devRef .tc main_v23) (ix2 0 k) = _
  after_results
  pointwise
  rw [W4_args m ρ c main_arg14 (by decide)]

theorem W7_v25 (c : Dev nD) (b : Fin 2) (n : Fin 2048) (R : Fin 4096) (k : Fin 1024) (hR : R.val = b.val * 2048 + n.val) : W7 m ρ c (Proc.devRef .tc main_v25) (ix3 b n k) = W6 m ρ c (Proc.devRef .tc main_v24) (ix2 R k) := by
  change StableHlo.after hostOps3 (W6 m ρ c) (Proc.devRef .tc main_v25) (ix3 b n k) = _
  after_results
  pointwise
  have h1 : (⟨b.val * 2048 + n.val, by omega⟩ : Fin 4096) = R := Fin.ext hR.symm
  rw [h1]

/-- The flattened input is still in place when the third kernel starts. -/
theorem W5_v0 (c : Dev nD) (b : Fin 2) (n : Fin 2048) (R : Fin 4096) (k : Fin 1024) (hR : R.val = b.val * 2048 + n.val) :
    W5 m ρ c (Proc.devRef .tc main_v0) (ix2 R k) = m ((c.tc : Thread nD τ).loc main_arg0) (ix3 b n k) := by
  rw [W5_of m ρ c main_v0 (by decide), W4_of m ρ c main_v0 (by decide), W3_of m ρ c main_v0 (by decide), W2_of m ρ c main_v0 (by decide)]
  exact W1_v0 m ρ c b n R k hR

/-- The argument arrays of a launch memory, as plain functions. -/
def args (c : Dev nD) : Args where
  x := fun b n k => m ((c.tc : Thread nD τ).loc main_arg0) (ix3 b n k)
  pos := fun b n k => m ((c.tc : Thread nD τ).loc main_arg1) (ix3 b n k)
  wq := fun r k => m ((c.tc : Thread nD τ).loc main_arg3) (ix2 r k)
  bq := fun k => m ((c.tc : Thread nD τ).loc main_arg4) (ix1 k)
  wk := fun r k => m ((c.tc : Thread nD τ).loc main_arg5) (ix2 r k)
  bk := fun k => m ((c.tc : Thread nD τ).loc main_arg6) (ix1 k)
  wv := fun r k => m ((c.tc : Thread nD τ).loc main_arg7) (ix2 r k)
  bv := fun k => m ((c.tc : Thread nD τ).loc main_arg8) (ix1 k)
  wo := fun r k => m ((c.tc : Thread nD τ).loc main_arg9) (ix2 r k)
  bo := fun k => m ((c.tc : Thread nD τ).loc main_arg10) (ix1 k)
  w1 := fun r k => m ((c.tc : Thread nD τ).loc main_arg11) (ix2 r k)
  b1 := fun k => m ((c.tc : Thread nD τ).loc main_arg12) (ix1 k)
  w2 := fun r k => m ((c.tc : Thread nD τ).loc main_arg13) (ix2 r k)
  b2 := fun k => m ((c.tc : Thread nD τ).loc main_arg14) (ix1 k)
  g1 := fun k => m ((c.tc : Thread nD τ).loc main_arg15) (ix1 k)
  be1 := fun k => m ((c.tc : Thread nD τ).loc main_arg16) (ix1 k)
  g2 := fun k => m ((c.tc : Thread nD τ).loc main_arg17) (ix1 k)
  be2 := fun k => m ((c.tc : Thread nD τ).loc main_arg18) (ix1 k)
  c := m ((c.tc : Thread nD τ).loc main_arg2) (ix1 0)
  lt := m ((c.tc : Thread nD τ).loc main_arg19) ix0

theorem xn_eq (c : Dev nD) (b : Fin 2) (n : Fin 2048) (R : Fin 4096) (hR : R.val = b.val * 2048 + n.val) :
    xn (V1 m ρ) c R = lnK ((args m c).x b n) (args m c).g1 (args m c).be1 := by
  unfold xn
  funext k
  have hx (k) : V1 m ρ c main_v0 (ix2 R k) = (args m c).x b n k := W1_v0 m ρ c b n R k hR
  have hg (k) : V1 m ρ c main_v7 (ix2 0 k) = (args m c).g1 k := W1_v7 m ρ c k
  have hb (k) : V1 m ρ c main_v8 (ix2 0 k) = (args m c).be1 k := W1_v8 m ρ c k
  simp only [hx, hg, hb]

theorem qAt_eq (c : Dev nD) (b : Fin 2) (n : Fin 2048) (R : Fin 4096) (e : Fin 1024) (hR : R.val = b.val * 2048 + n.val) :
    qAt (V1 m ρ) c R e = (args m c).qK b n e := by
  unfold qAt Args.qK
  rw [xn_eq m ρ c b n R hR]
  have hw (k) : V1 m ρ c main_v1 (ix2 e k) = (args m c).wq e k := W1_v1 m ρ c e k
  have hb : V1 m ρ c main_v4 (ix2 0 e) = (args m c).bq e := W1_v4 m ρ c e
  simp only [hw, hb]

theorem kAt_eq (c : Dev nD) (b : Fin 2) (n : Fin 2048) (R : Fin 4096) (e : Fin 1024) (hR : R.val = b.val * 2048 + n.val) :
    kAt (V1 m ρ) c R e = (args m c).kK b n e := by
  unfold kAt Args.kK
  rw [xn_eq m ρ c b n R hR]
  have hw (k) : V1 m ρ c main_v2 (ix2 e k) = (args m c).wk e k := W1_v2 m ρ c e k
  have hb : V1 m ρ c main_v5 (ix2 0 e) = (args m c).bk e := W1_v5 m ρ c e
  simp only [hw, hb]

theorem vAt_eq (c : Dev nD) (b : Fin 2) (n : Fin 2048) (R : Fin 4096) (e : Fin 1024) (hR : R.val = b.val * 2048 + n.val) :
    vAt (V1 m ρ) c R e = (args m c).vK b n e := by
  unfold vAt Args.vK
  rw [xn_eq m ρ c b n R hR]
  have hw (k) : V1 m ρ c main_v3 (ix2 e k) = (args m c).wv e k := W1_v3 m ρ c e k
  have hb : V1 m ρ c main_v6 (ix2 0 e) = (args m c).bv e := W1_v6 m ρ c e
  simp only [hw, hb]

theorem q_eq (c : Dev nD) (b : Fin 2) (n : Fin 2048) (e : Fin 1024) : V3 m ρ c main_v11 (ix3 b n e) = (args m c).qK b n e := by
  have hb := b.isLt
  have hn := n.isLt
  rw [← qAt_eq m ρ c b n ⟨b.val * 2048 + n.val, by omega⟩ e rfl]
  refine (W3_v11 m ρ c b n ⟨b.val * 2048 + n.val, by omega⟩ e rfl).trans ?_
  refine (congrFun (W2_arr m ρ c 9) _).trans ?_
  rw [arr0_9]
  rfl

theorem k_eq (c : Dev nD) (b : Fin 2) (n : Fin 2048) (e : Fin 1024) : V3 m ρ c main_v12 (ix3 b n e) = (args m c).kK b n e := by
  have hb := b.isLt
  have hn := n.isLt
  rw [← kAt_eq m ρ c b n ⟨b.val * 2048 + n.val, by omega⟩ e rfl]
  refine (W3_v12 m ρ c b n ⟨b.val * 2048 + n.val, by omega⟩ e rfl).trans ?_
  refine (congrFun (W2_arr m ρ c 10) _).trans ?_
  rw [arr0_10]
  rfl

theorem vx_eq (c : Dev nD) (b : Fin 2) (n : Fin 2048) (e : Fin 2048) :
    V3 m ρ c main_v13 (ix3 b n e) = vxAt (V1 m ρ) c ⟨b.val * 2048 + n.val, by omega⟩ e := by
  refine (W3_v13 m ρ c b n ⟨b.val * 2048 + n.val, by omega⟩ e rfl).trans ?_
  refine (congrFun (W2_arr m ρ c 11) _).trans ?_
  rw [arr0_11]
  rfl

theorem v_eq (c : Dev nD) (b : Fin 2) (n : Fin 2048) (e : Fin 1024) :
    V3 m ρ c main_v13 (ix3 b n ⟨e.val / 64 * 128 + e.val % 64, by omega⟩) = (args m c).vK b n e := by
  rw [vx_eq]
  unfold vxAt
  have h1 : (e.val / 64 * 128 + e.val % 64) % 128 = e.val % 64 := by omega
  have h2 : (e.val / 64 * 128 + e.val % 64) / 128 = e.val / 64 := by omega
  have h3 : e.val / 64 * 64 + e.val % 64 = e.val := by omega
  rw [if_pos (by simp only; omega)]
  rw [← vAt_eq m ρ c b n ⟨b.val * 2048 + n.val, by omega⟩ e rfl]
  congr 1
  exact Fin.ext (by simp only [h1, h2]; omega)

theorem one_eq (c : Dev nD) (b : Fin 2) (n : Fin 2048) (e : Fin 1024) :
    V3 m ρ c main_v13 (ix3 b n ⟨e.val / 64 * 128 + 64, by omega⟩) = (1 : EReal) := by
  rw [vx_eq]
  unfold vxAt
  rw [if_neg (by simp only; omega)]
  have h : (⟨(e.val / 64 * 128 + 64) % 64, by omega⟩ : Fin 64) = 0 := Fin.ext (by simp only [Fin.val_zero]; omega)
  rw [h]
  unfold_payloads
  pointwise
  have h : (IntOp.subi (1#32) (IntOp.minsi 0#32 1#32)) = 1#32 := by decide
  rw [h]
  show (((1#32 : BitVec 32).toInt : ℝ) : EReal) = 1
  have h' : (1#32 : BitVec 32).toInt = 1 := by decide
  rw [h']
  simp

theorem attn_eq (c : Dev nD) (b : Fin 2) (n : Fin 2048) (e : Fin 1024) : V4 m ρ c main_v14 (ix3 b n e) = (args m c).attnK b n e := by
  refine (congrFun (W4_arr m ρ c 7) _).trans ?_
  rw [arr1_7]
  change attnAt (V3 m ρ) c b n e = _
  have hl : V3 m ρ c main_v10 (ix1 0) = (args m c).lt := W3_v10 m ρ c
  have hc : V3 m ρ c main_arg2 (ix1 0) = (args m c).c := congrFun (W3_args m ρ c main_arg2 (by decide)) _
  have hp (j : Fin 2048) (x : Fin 64) : V3 m ρ c main_arg1 (ix3 b j x) = (args m c).pos b j x := congrFun (W3_args m ρ c main_arg1 (by decide)) _
  unfold attnAt maskAt
  have hq (y : Fin 64) : V3 m ρ c main_v11 (ix3 b n ⟨e.val / 64 * 64 + y.val, by omega⟩) = (args m c).qK b n (col e y) := q_eq m ρ c b n (col e y)
  have hk (x : Fin 2048) (y : Fin 64) : V3 m ρ c main_v12 (ix3 b x ⟨e.val / 64 * 64 + y.val, by omega⟩) = (args m c).kK b x (col e y) := k_eq m ρ c b x (col e y)
  have hv (x : Fin 2048) : V3 m ρ c main_v13 (ix3 b x ⟨e.val / 64 * 128 + e.val % 64, by omega⟩) = (args m c).vK b x e := v_eq m ρ c b x e
  have h1 (x : Fin 2048) : V3 m ρ c main_v13 (ix3 b x ⟨e.val / 64 * 128 + 64, by omega⟩) = (1 : EReal) := one_eq m ρ c b x e
  simp only [hl, hc, hp, hq, hk, hv, h1]
  rfl

theorem x1_eq (c : Dev nD) (b : Fin 2) (n : Fin 2048) (R : Fin 4096) (t : Fin 1024) (hR : R.val = b.val * 2048 + n.val) :
    x1At (V5 m ρ) c R t = (args m c).x1K b n t := by
  have h0 : V5 m ρ c main_v0 (ix2 R t) = (args m c).x b n t := W5_v0 m ρ c b n R t hR
  have h1 (k) : V5 m ρ c main_v15 (ix2 R k) = (args m c).attnK b n k := (W5_v15 m ρ c b n R k hR).trans (attn_eq m ρ c b n k)
  have h2 (k) : V5 m ρ c main_v16 (ix2 t k) = (args m c).wo t k := W5_v16 m ρ c t k
  have h3 : V5 m ρ c main_v17 (ix2 0 t) = (args m c).bo t := W5_v17 m ρ c t
  unfold x1At
  simp only [h0, h1, h2, h3]
  rfl

/-- The result array of the kernel program, entry by entry. -/
theorem result_eq (c : Dev nD) (b : Fin 2) (n : Fin 2048) (t : Fin 1024) :
    W7 m ρ c (Proc.devRef .tc main_v25) (ix3 b n t) = (args m c).outK b n t := by
  have hb := b.isLt
  have hn := n.isLt
  obtain ⟨R, hR⟩ : ∃ R : Fin 4096, R.val = b.val * 2048 + n.val := ⟨⟨b.val * 2048 + n.val, by omega⟩, rfl⟩
  refine (W7_v25 m ρ c b n R t hR).trans ?_
  refine (congrFun (W6_arr m ρ c 10) _).trans ?_
  rw [arr2_10]
  change outAt (V5 m ρ) c R t = _
  have h0 : x1At (V5 m ρ) c R = (args m c).x1K b n := funext fun t => x1_eq m ρ c b n R t hR
  have h1 (k) : V5 m ρ c main_v18 (ix2 0 k) = (args m c).g2 k := W5_v18 m ρ c k
  have h2 (k) : V5 m ρ c main_v19 (ix2 0 k) = (args m c).be2 k := W5_v19 m ρ c k
  have h3 (j k) : V5 m ρ c main_v20 (ix2 j k) = (args m c).w1 j k := W5_v20 m ρ c j k
  have h4 (j) : V5 m ρ c main_v21 (ix2 0 j) = (args m c).b1 j := W5_v21 m ρ c j
  have h5 (j) : V5 m ρ c main_v22 (ix2 t j) = (args m c).w2 t j := W5_v22 m ρ c t j
  have h6 : V5 m ρ c main_v23 (ix2 0 t) = (args m c).b2 t := W5_v23 m ρ c t
  unfold outAt
  simp only [h0, h1, h2, h3, h4, h5, h6]
  rfl

end Cert.KernelIdeal.Value

end
-- ==== Proof.Results.lean ====
module

public import proofs.«01_k».proof.Proof.Good
public import proofs.«01_k».proof.Proof.ValueRun

@[expose] public section

noncomputable section

/-! The kernel's result array and the reference's result array, under the precondition, are the same. -/

namespace Cert.Proof

open Cert.Spec
open Idealize.ShloMosaic Idealize.SL.Sem

/-- An index of the result array, by its coordinates. -/
theorem result_idx (i : Cert.Pre_near_apart.S2x2048x1024.Idx) : i = ix3 (i 0) (i 1) (i 2) := by
  funext a
  fin_cases a <;> rfl

theorem results_equal [Cert.Pre_near_apart.Facts] (m : (ℓ : Loc Cert.KernelIdeal.nD Cert.KernelIdeal.τ Cert.KernelIdeal.sig) → Buf (Elt Ideal) ℓ) (g : Dev Cert.KernelIdeal.nD → PrngReg)
    (hpre : Cert.Pre_KernelIdeal_near_apart m) (c : Dev Cert.KernelIdeal.nD) :
    Cert.ReferenceIdeal.Read.val_main_v181 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) =
      Cert.KernelIdeal.Gen.W7 m g c (Proc.devRef .tc Cert.KernelIdeal.main_v25) := by
  obtain ⟨h0, h1, h2, h3, h4, h5, h6, h7⟩ := hpre c
  have hg := good (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) h0 h1 h2 h3 h4 h5 h6 h7
  funext i
  rw [result_idx i]
  refine (Cert.ReferenceIdeal.Read.out_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (i 0) (i 1) (i 2)).trans ?_
  refine Eq.trans ?_ (Cert.KernelIdeal.Value.result_eq m g c (i 0) (i 1) (i 2)).symm
  exact (Args.out_eq hg (i 0) (i 1) (i 2)).symm

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelRun
public import proofs.«01_k».proof.Proof.Results
public import Idealize.ShloMosaic.Adequacy
public import Idealize.ShloMosaic.Init

@[expose] public section

noncomputable section

namespace Cert.Proof

open Idealize.ShloMosaic Idealize.SL.Sem

/-- The two runs leave one result. -/
theorem algebraic [Cert.Pre_near_apart.Facts] :
    Cert.algebraic_KernelIdeal_ReferenceIdeal_pre_near_apart (hKernelIdeal := Cert.KernelIdeal.Gen.facts) (hReferenceIdeal := Cert.ReferenceIdeal.Gen.facts) := by
  intro m g m' g' hpre hargs
  refine ⟨fun c => Cert.KernelIdeal.Gen.W7 m g c (Proc.devRef .tc Cert.KernelIdeal.main_v25), ?_, ?_⟩
  · refine (θ_run _ _ _).mono (fun r h c => ?_) (Cert.KernelIdeal.Value.run_all m g)
    exact ⟨h c _ (Cert.KernelIdeal.Gen.mem_uc Cert.KernelIdeal.main_v25 (by decide)),
      (h c _ (Cert.KernelIdeal.Gen.mem_uc Cert.KernelIdeal.main_arg0 (by decide))).trans (Cert.KernelIdeal.Gen.W7_main_arg0 m g c),
      (h c _ (Cert.KernelIdeal.Gen.mem_uc Cert.KernelIdeal.main_arg1 (by decide))).trans (Cert.KernelIdeal.Gen.W7_main_arg1 m g c),
      (h c _ (Cert.KernelIdeal.Gen.mem_uc Cert.KernelIdeal.main_arg2 (by decide))).trans (Cert.KernelIdeal.Gen.W7_main_arg2 m g c),
      (h c _ (Cert.KernelIdeal.Gen.mem_uc Cert.KernelIdeal.main_arg3 (by decide))).trans (Cert.KernelIdeal.Gen.W7_main_arg3 m g c),
      (h c _ (Cert.KernelIdeal.Gen.mem_uc Cert.KernelIdeal.main_arg4 (by decide))).trans (Cert.KernelIdeal.Gen.W7_main_arg4 m g c),
      (h c _ (Cert.KernelIdeal.Gen.mem_uc Cert.KernelIdeal.main_arg5 (by decide))).trans (Cert.KernelIdeal.Gen.W7_main_arg5 m g c),
      (h c _ (Cert.KernelIdeal.Gen.mem_uc Cert.KernelIdeal.main_arg6 (by decide))).trans (Cert.KernelIdeal.Gen.W7_main_arg6 m g c),
      (h c _ (Cert.KernelIdeal.Gen.mem_uc Cert.KernelIdeal.main_arg7 (by decide))).trans (Cert.KernelIdeal.Gen.W7_main_arg7 m g c),
      (h c _ (Cert.KernelIdeal.Gen.mem_uc Cert.KernelIdeal.main_arg8 (by decide))).trans (Cert.KernelIdeal.Gen.W7_main_arg8 m g c),
      (h c _ (Cert.KernelIdeal.Gen.mem_uc Cert.KernelIdeal.main_arg9 (by decide))).trans (Cert.KernelIdeal.Gen.W7_main_arg9 m g c),
      (h c _ (Cert.KernelIdeal.Gen.mem_uc Cert.KernelIdeal.main_arg10 (by decide))).trans (Cert.KernelIdeal.Gen.W7_main_arg10 m g c),
      (h c _ (Cert.KernelIdeal.Gen.mem_uc Cert.KernelIdeal.main_arg11 (by decide))).trans (Cert.KernelIdeal.Gen.W7_main_arg11 m g c),
      (h c _ (Cert.KernelIdeal.Gen.mem_uc Cert.KernelIdeal.main_arg12 (by decide))).trans (Cert.KernelIdeal.Gen.W7_main_arg12 m g c),
      (h c _ (Cert.KernelIdeal.Gen.mem_uc Cert.KernelIdeal.main_arg13 (by decide))).trans (Cert.KernelIdeal.Gen.W7_main_arg13 m g c),
      (h c _ (Cert.KernelIdeal.Gen.mem_uc Cert.KernelIdeal.main_arg14 (by decide))).trans (Cert.KernelIdeal.Gen.W7_main_arg14 m g c),
      (h c _ (Cert.KernelIdeal.Gen.mem_uc Cert.KernelIdeal.main_arg15 (by decide))).trans (Cert.KernelIdeal.Gen.W7_main_arg15 m g c),
      (h c _ (Cert.KernelIdeal.Gen.mem_uc Cert.KernelIdeal.main_arg16 (by decide))).trans (Cert.KernelIdeal.Gen.W7_main_arg16 m g c),
      (h c _ (Cert.KernelIdeal.Gen.mem_uc Cert.KernelIdeal.main_arg17 (by decide))).trans (Cert.KernelIdeal.Gen.W7_main_arg17 m g c),
      (h c _ (Cert.KernelIdeal.Gen.mem_uc Cert.KernelIdeal.main_arg18 (by decide))).trans (Cert.KernelIdeal.Gen.W7_main_arg18 m g c),
      (h c _ (Cert.KernelIdeal.Gen.mem_uc Cert.KernelIdeal.main_arg19 (by decide))).trans (Cert.KernelIdeal.Gen.W7_main_arg19 m g c)⟩
  · refine (θ_run _ _ _).mono (fun r h c => ⟨?_, (h c).2⟩) (Cert.ReferenceIdeal.Value.run (F := Ideal) m' g')
    obtain ⟨a0, a1, a2, a3, a4, a5, a6, a7, a8, a9, a10, a11, a12, a13, a14, a15, a16, a17, a18, a19⟩ := hargs c
    refine ((h c).1.trans (Cert.ReferenceIdeal.Read.val_main_v181_eq (StableHlo.launchContents m' c))).trans ?_
    simp only [StableHlo.launchContents_devRef, a0, a1, a2, a3, a4, a5, a6, a7, a8, a9, a10, a11, a12, a13, a14, a15, a16, a17, a18, a19]
    exact results_equal m g hpre c

theorem claim : Cert.Claim := ⟨Cert.Kernel.Gen.facts, Cert.KernelIdeal.Gen.facts, Cert.ReferenceIdeal.Gen.facts, preFacts,
  fun m g _ => Cert.Kernel.Gen.frame (F := Bits) m g,
  fun m g _ => Cert.KernelIdeal.Gen.frame (F := Ideal) m g,
  fun m g _ => Cert.KernelIdeal.Gen.frame (F := Ideal) m g,
  fun m g _ => (θ_run _ _ _).mono (fun r h => ⟨fun c => (h c).2, sem_eq_zero_of_no_sems rfl r.2⟩) (Cert.ReferenceIdeal.Value.run (F := Ideal) m g),
  fun m g _ => (θ_run _ _ _).mono (fun r h => ⟨fun c => (h c).2, sem_eq_zero_of_no_sems rfl r.2⟩) (Cert.ReferenceIdeal.Value.run (F := Ideal) m g),
  IdealRules.named_const.statement Cert.KernelIdeal.κ "mask" .f32 0xF149F2CA#32 ⊥ rfl,
  @algebraic preFacts⟩

end Cert.Proof

end
